-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts),
    quiescent_Kernel (hKernel := hKernel) (hPre_targets_in_range := hPre_targets_in_range)
    ∧ quiescent_KernelIdeal (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal (hKernelIdeal := hKernelIdeal) (hReferenceIdeal := hReferenceIdeal) (hPre_targets_in_range := hPre_targets_in_range)
-- ==== Pre_targets_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Kernel.lean ====
abbrev S1024x100000 : Shape := ⟨2, ![1024, 100000]⟩
abbrev S1024 : Shape := ⟨1, ![1024]⟩
abbrev S102400000 : Shape := ⟨1, ![102400000]⟩
abbrev S32 : Shape := ⟨1, ![32]⟩
abbrev S_ : Shape := ⟨0, ![]⟩
abbrev S16 : Shape := ⟨1, ![16]⟩
abbrev S1024x1 : Shape := ⟨2, ![1024, 1]⟩
abbrev S1x1 : Shape := ⟨2, ![1, 1]⟩
abbrev S32x100000 : Shape := ⟨2, ![32, 100000]⟩
abbrev S32x1 : Shape := ⟨2, ![32, 1]⟩
abbrev S1 : Shape := ⟨1, ![1]⟩
abbrev S1x32x1 : Shape := ⟨3, ![1, 32, 1]⟩
abbrev S1x1x1 : Shape := ⟨3, ![1, 1, 1]⟩

abbrev nBuf : Table → Nat
  | .hbm => 8
  | .local .tc .vmem => 6
  | .local .tc .smem => 2
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S1024, .f32⟩
  | .hbm, ⟨4, _⟩ => ⟨S1024x1, .i32⟩
  | .hbm, ⟨5, _⟩ => ⟨S1024x1, .f32⟩
  | .hbm, ⟨6, _⟩ => ⟨S1x1, .f32⟩
  | .hbm, ⟨7, _⟩ => ⟨S_, .f32⟩
  | .local .tc .vmem, ⟨0, _⟩ => ⟨S32x100000, .f32⟩
  | .local .tc .vmem, ⟨1, _⟩ => ⟨S32x100000, .f32⟩
  | .local .tc .vmem, ⟨2, _⟩ => ⟨S32x1, .i32⟩
  | .local .tc .vmem, ⟨3, _⟩ => ⟨S32x1, .i32⟩
  | .local .tc .vmem, ⟨4, _⟩ => ⟨S32x1, .f32⟩
  | .local .tc .vmem, ⟨5, _⟩ => ⟨S32x1, .f32⟩
  | .local .tc .smem, ⟨0, _⟩ => ⟨S1x1, .f32⟩
  | .local .tc .smem, ⟨1, _⟩ => ⟨S1, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 0, rfl⟩
abbrev cc1_scratch0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1 : Shape := ⟨1, ![1]⟩

abbrev nBuf : Space → Nat
  | .hbm => 47
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S1024x100000, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x1, .i32⟩
  | .hbm, ⟨21, _⟩ => ⟨S1024x2, .i32⟩
  | .hbm, ⟨22, _⟩ => ⟨S_, .f32⟩
  | .hbm, ⟨23, _⟩ => ⟨S1024, .f32⟩
  | .hbm, ⟨24, _⟩ => ⟨S1024x100000, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S1024, .f32⟩
  | .hbm, ⟨29, _⟩ => ⟨S1024x100000, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024x1, .i1⟩
  | .hbm, ⟨34, _⟩ => ⟨S_, .f32⟩
  | .hbm, ⟨35, _⟩ => ⟨S_, .f32⟩
  | .hbm, ⟨36, _⟩ => ⟨S1024x100000, .i1⟩
  | .hbm, ⟨37, _⟩ => ⟨S1024x100000, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.Setup.lean ====
/-
  The launch set-up the kernel's run is proved over: the program as the SparseCore launch theorem reads it, the
  resource algebra (the launch handshakes' rounds, the pipeline's rounds, the copies' counters), the arrays by name,
  and what the SparseCore call's handshakes carry. Each of the thirty-two tiles takes its thirty-two entries of
  `target`, a share of the flattened `x`, and its thirty-two entries of the output; it brings them back with the
  output's entries holding the values the targets name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds. -/
abbrev EH : Emb UH (MT nD τ sig (HIx 1) (Elt F) ℕ UU ℕ) := embL
/-- The pipeline's rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_arg1
abbrev gLoc (d : Dev nD) : Loc nD τ sig := (SparseCore.T d).loc main_v0
abbrev oLoc (d : Dev nD) : Loc nD τ sig := (SparseCore.T d).loc main_v1

/-- The flat position that row `j`'s target names. -/
def pos (t : S1024.Idx → BitVec 32) (j : S1024.Idx) : S102400000.Idx :=
  fun a => match a with | 0 => (⟨((j 0).val * 100000 + (t j).toNat) % 102400000, Nat.mod_lt _ (by decide)⟩ : Fin 102400000)
/-- The entry of the flattened `x` that each row's target names. -/
def picked (x : S102400000.Idx → F .f32) (t : S1024.Idx → BitVec 32) : S1024.Idx → F .f32 := fun j => x (pos t j)

/-- `x` flattened, as the first operation of @main leaves it. -/
def flatX (d : Dev nD) : Buf (Elt F) (gLoc d) :=
  fun i => shapeCast S102400000 (m (aLoc d) : S1024x100000.Idx → F .f32) shapeCasts_S1024x100000_S102400000 i
/-- What the SparseCore call leaves in its output. -/
def outX (d : Dev nD) : Buf (Elt F) (oLoc d) := picked (F := F) (flatX m d) (m (tLoc d))

theorem ddiv : 32 ∣ S1024.size 0 := ⟨32, rfl⟩
/-- Tile `w`'s thirty-two entries. -/
abbrev row (w : Fin 32) : Rect S1024 := Rect.part (s := S1024) (a₀ := 0) ddiv w
abbrev tRowSet (w : Fin 32) : Finset S1024.Idx := ((Memref.whole main_arg1_scv).view.slice (row w)).set
abbrev oRowSet (w : Fin 32) : Finset S1024.Idx := ((Memref.whole main_v1_scv).view.slice (row w)).set

/-- Tile `w`'s share of the flattened `x`. -/
abbrev xq (w : Fin 32) : PosShare TreeShare := ShareLeaves.leaf 5 fullShare w

/-! ## What the handshakes carry -/

abbrev tRowPts (d : Dev nD) (w : Fin 32) : sProp 𝕄 := tLoc d ↦[tRowSet w]{fullShare} m (tLoc d)
abbrev xShPts (d : Dev nD) (w : Fin 32) : sProp 𝕄 := gLoc d ↦{xq w} flatX m d
abbrev oRowPts (d : Dev nD) (w : Fin 32) (f : Buf (Elt F) (oLoc d)) : sProp 𝕄 := oLoc d ↦[oRowSet w]{fullShare} f

/-- What tile `w` takes, and what it brings back. -/
abbrev goW (d : Dev nD) (w : Fin 32) : sProp 𝕄 := iprop(tRowPts m d w ∗ xShPts m d w ∗ oRowPts d w (m (oLoc d)))
abbrev tdW (d : Dev nD) (w : Fin 32) : sProp 𝕄 := iprop(tRowPts m d w ∗ xShPts m d w ∗ oRowPts d w (outX m d))

/-- The number of the tile on SparseCore `c`, subcore `i`. -/
abbrev wid (c : Fin 2) (i : Fin 16) : Fin 32 := ⟨c.val + 2 * i.val, by omega⟩

def P : (K (F := F)).Pay (nD := nD) (Val := Elt F) (Name := ℕ) (U := UU) where
  st := fun q d c => match q with
    | 0 => bigSep Finset.univ fun i : Fin ((K (F := F)).nSub 0) => goW m d (wid (Fin.cast nCore_zero c) (Fin.cast nSub_zero i))
  dn := fun q d c => match q with
    | 0 => bigSep Finset.univ fun i : Fin ((K (F := F)).nSub 0) => tdW m d (wid (Fin.cast nCore_zero c) (Fin.cast nSub_zero i))
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goW m d (wid (Fin.cast nCore_zero c) (Fin.cast nSub_zero i))))
  dn q d c := match q with
    | 0 => (inferInstance : BI.Storable (upEmb : UEmb _ 𝕄)
      (bigSep Finset.univ fun i : Fin ((K (F := F)).nSub 0) => tdW m d (wid (Fin.cast nCore_zero c) (Fin.cast nSub_zero i))))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-- Every target is a column of `x`. -/
def PreOK : Prop := ∀ (d : Dev nD) (j : S1024.Idx), (m (tLoc d) j).toNat < 100000

/-- The call's operands are dealt to its tiles as they come, and taken back as they are. -/
theorem vecSplit : (K (F := F)).VecSplit' (P m) 0 := by
  intro d c
  show (bigSep Finset.univ fun i : Fin ((K (F := F)).nSub 0) => goW m d (wid (Fin.cast nCore_zero c) (Fin.cast nSub_zero i)))
    ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ (bigSep Finset.univ fun i : Fin ((K (F := F)).nSub 0) => tdW m d (wid (Fin.cast nCore_zero c) (Fin.cast nSub_zero i)))))
  iintro H; imodintro
  isplitl [H]; · iexact H
  iintro H; iexact H

end Cert.Proof.Run

end
-- ==== Proof.Tile.lean ====
/-
  One tile's task on the SparseCore: it fetches its thirty-two targets, turns each into the position in the flattened
  `x` that it names, has the engine gather those thirty-two entries, and writes them to its rows of the output.
-/
module

public import proofs.«01_k».proof.Proof.Setup
public import Idealize.ShloMosaic.Lib.WritesUnit
public import Idealize.ShloMosaic.Lib.Pipeline.Value

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's number, from its coordinates. -/
abbrev wL (L : grid0.Coords) : Fin 32 := wid (Fin.cast bound_zero (L 0)) (Fin.cast bound_one (L 1))

abbrev rowK (L : grid0.Coords) : Rect S1024 := Rect.unit (s := S1024) (k0_off1 L) S32.size (k0_off1_inb L)
/-- The tile's targets, its part of the output, and the flattened `x`, as the task addresses them. -/
abbrev tRowK (L : grid0.Coords) : Memref sig .scVector .hbm S32 .i32 := (Memref.whole main_arg1_scv).slice (rowK L) (fun _ => rfl)
abbrev oRowK (L : grid0.Coords) : Memref sig .scVector .hbm S32 .f32 := (Memref.whole main_v1_scv).slice (rowK L) (fun _ => rfl)
abbrev gAllK : Memref sig .scVector .hbm S102400000 .f32 :=
  (Memref.whole main_v0_scv).slice (Rect.unit (s := S102400000) ![0] S102400000.size inb_S102400000_S102400000_0) (fun _ => rfl)

theorem rowK_eq : rowK L = row (wL L) := by
  unfold rowK row Rect.part Rect.block
  congr 1 <;> funext a
  · rw [k0_off1_eq]
    match a with
    | 0 => simp [Shape.partIx, Shape.partSize, wid, Fin.val_cast]; ring_nf; exact Nat.add_comm _ _
  · match a with
    | 0 => simp [Shape.partSize]

theorem set_tRowK : (tRowK L).view.set = tRowSet (wL L) := by
  show ((Memref.whole main_arg1_scv).view.slice (rowK L)).set = ((Memref.whole main_arg1_scv).view.slice (row (wL L))).set
  exact rowK_eq L ▸ rfl
theorem set_oRowK : (oRowK L).view.set = oRowSet (wL L) := by
  show ((Memref.whole main_v1_scv).view.slice (rowK L)).set = ((Memref.whole main_v1_scv).view.slice (row (wL L))).set
  exact rowK_eq L ▸ rfl

theorem pts_tRowK (f : Buf (Elt F) (tLoc d)) :
    ((tRowK L).view.loc (V d (cV L) (jV L)) ↦[(tRowK L).view.set]{fullShare} f : sProp 𝕄) = tLoc d ↦[tRowSet (wL L)]{fullShare} f := by
  rw [set_tRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_gV (q : PosShare TreeShare) (f : Buf (Elt F) (gLoc d)) :
    ((Memref.whole main_v0_scv).view.loc (V d (cV L) (jV L)) ↦{q} f : sProp 𝕄) = gLoc d ↦{q} f := rfl
theorem pts_aV (f : Buf (Elt F) ((V d (cV L) (jV L)).loc cc0_scratch0)) :
    ((Memref.whole cc0_scratch0).view.loc (V d (cV L) (jV L)) ↦{fullShare} f : sProp 𝕄) = (V d (cV L) (jV L)).loc cc0_scratch0 ↦{fullShare} f := rfl
theorem pts_lV (f : Buf (Elt F) ((V d (cV L) (jV L)).loc cc0_scratch1)) :
    ((Memref.whole cc0_scratch1).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((Memref.whole cc0_scratch2).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The task's three semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The task's three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The tile's first row. -/
abbrev base (L : grid0.Coords) : ℕ := 64 * (L 1).val + 32 * (L 0).val

theorem L0_lt : (L 0).val < 2 := (L 0).isLt
theorem L1_lt : (L 1).val < 16 := (L 1).isLt

/-- The positions the task stores: row number times the number of columns, plus the target. -/
theorem base_le : base L ≤ 992 := by
  have h0 := L0_lt L; have h1 := L1_lt L; unfold base; omega
theorem pay1_toNat (T : Vec F S16 .i32) (l : S16.Idx) (hT : (T l : BitVec 32).toNat < 100000) :
    (k0_pay1 (F := F) L T l).toNat = (base L + (l 0).val) * 100000 + (T l : BitVec 32).toNat := by
  have h0 : (L 0).val < 2 := L0_lt L
  have h1 : (L 1).val < 16 := L1_lt L
  have hl : (l 0).val < 16 := (l 0).isLt
  simp only [k0_pay1, shapeCast_self, addi, muli, iota, broadcast, Scalar.muli, Scalar.addi, IntOp.addi, IntOp.muli, List.foldl]
  simp only [BitVec.toNat_add, BitVec.toNat_mul, BitVec.toNat_ofNat, base]
  omega
theorem pay2_toNat (T : Vec F S16 .i32) (l : S16.Idx) (hT : (T l : BitVec 32).toNat < 100000) :
    (k0_pay2 (F := F) L T l).toNat = (base L + (16 + (l 0).val)) * 100000 + (T l : BitVec 32).toNat := by
  have h0 : (L 0).val < 2 := L0_lt L
  have h1 : (L 1).val < 16 := L1_lt L
  have hl : (l 0).val < 16 := (l 0).isLt
  simp only [k0_pay2, shapeCast_self, addi, muli, iota, broadcast, Scalar.muli, Scalar.addi, IntOp.addi, IntOp.muli, List.foldl]
  simp only [BitVec.toNat_add, BitVec.toNat_mul, BitVec.toNat_ofNat, base]
  omega

/-- The target under the tile's entry `x`. -/
abbrev tgt (x : S32.Idx) : BitVec 32 := m (tLoc d) ((tRowK L).view.emb x)

/-- The list the tile stores, read at an entry. -/
theorem list_read (hpre : PreOK m) (fa : Buf (Elt F) ((V d (cV L) (jV L)).loc cc0_scratch0)) (g : (Memref.whole cc0_scratch1).view.ty.Contents (Elt F)) (x : S32.Idx) :
    ((Memref.whole cc0_scratch1).view.read (Elt F) ((Memref.whole cc0_scratch1).view.writes (Elt F) g
      [⟨Rect.unit (s := S32) ![16] S16.size inb_S32_S16_16, k0_pay2 L ((Memref.whole cc0_scratch0).view.readAt (Elt F) (Rect.unit (s := S32) ![16] S16.size inb_S32_S16_16).toLoadRect
          (View.write (Elt F) (Memref.whole cc0_scratch0).view fa (ReadAs.same.apply ((tRowK L).view.read (Elt F) (m (tLoc d)))) Finset.univ))⟩,
       ⟨Rect.unit (s := S32) ![0] S16.size inb_S32_S16_0, k0_pay1 L ((Memref.whole cc0_scratch0).view.readAt (Elt F) (Rect.unit (s := S32) ![0] S16.size inb_S32_S16_0).toLoadRect
          (View.write (Elt F) (Memref.whole cc0_scratch0).view fa (ReadAs.same.apply ((tRowK L).view.read (Elt F) (m (tLoc d)))) Finset.univ))⟩]) x : BitVec 32).toNat
      = (base L + (x 0).val) * 100000 + (tgt m d L x).toNat := by
  have hx : (x 0).val < 32 := (x 0).isLt
  by_cases h : 16 ≤ (x 0).val
  · rw [View.read_writes_cons_unit_of_mem (Memref.whole cc0_scratch1).view g inb_S32_S16_16 _ _ x
      (fun a => match a with | 0 => (⟨(x 0).val - 16, by omega⟩ : Fin 16)) rfl (fun a => by match a with | 0 => show (x 0).val = 16 + ((x 0).val - 16); omega)]
    have e : ∀ l : S16.Idx, l 0 = (⟨(x 0).val - 16, by omega⟩ : Fin 16) → ((Memref.whole cc0_scratch0).view.readAt (Elt F) (Rect.unit (s := S32) ![16] S16.size inb_S32_S16_16).toLoadRect
          (View.write (Elt F) (Memref.whole cc0_scratch0).view fa (ReadAs.same.apply ((tRowK L).view.read (Elt F) (m (tLoc d)))) Finset.univ)) l = tgt m d L x := by
      intro l hl
      rw [View.write_whole_univ, View.readAt_apply]
      show (tRowK L).view.read (Elt F) (m (tLoc d)) _ = _
      rw [View.read_apply]
      refine (cast_eq _ _).trans (congrArg (fun y => m (tLoc d) ((tRowK L).view.emb y)) ?_)
      funext a
      match a with
      | 0 => exact Fin.ext (show 16 + 1 * (l 0).val = (x 0).val by rw [hl]; show 16 + 1 * ((x 0).val - 16) = _; omega)
    rw [pay2_toNat L _ _ (by rw [e _ rfl]; exact hpre d _), e _ rfl]
    show (base L + (16 + ((x 0).val - 16))) * 100000 + _ = _
    rw [Nat.add_sub_cancel' h]
  · rw [View.read_writes_cons_unit_of_not_mem (Memref.whole cc0_scratch1).view g inb_S32_S16_16 _ _ x rfl 0 (Or.inl (by show (x 0).val < 16; omega)),
      View.read_writes_cons_unit_of_mem (Memref.whole cc0_scratch1).view g inb_S32_S16_0 _ _ x
      (fun a => match a with | 0 => (⟨(x 0).val, by omega⟩ : Fin 16)) rfl (fun a => by match a with | 0 => show (x 0).val = 0 + ((x 0).val); omega)]
    have e : ∀ l : S16.Idx, l 0 = (⟨(x 0).val, by omega⟩ : Fin 16) → ((Memref.whole cc0_scratch0).view.readAt (Elt F) (Rect.unit (s := S32) ![0] S16.size inb_S32_S16_0).toLoadRect
          (View.write (Elt F) (Memref.whole cc0_scratch0).view fa (ReadAs.same.apply ((tRowK L).view.read (Elt F) (m (tLoc d)))) Finset.univ)) l = tgt m d L x := by
      intro l hl
      rw [View.write_whole_univ, View.readAt_apply]
      show (tRowK L).view.read (Elt F) (m (tLoc d)) _ = _
      rw [View.read_apply]
      refine (cast_eq _ _).trans (congrArg (fun y => m (tLoc d) ((tRowK L).view.emb y)) ?_)
      funext a
      match a with
      | 0 => exact Fin.ext (show 0 + 1 * (l 0).val = (x 0).val by rw [hl]; show 0 + 1 * ((x 0).val) = _; omega)
    rw [pay1_toNat L _ _ (by rw [e _ rfl]; exact hpre d _), e _ rfl]

/-- The entries the engine gathers are the ones the tile's targets name. -/
theorem gathered (hpre : PreOK m) (v : S32.Idx → Elt F .i32) (hv : ∀ x, (v x : BitVec 32).toNat = (base L + (x 0).val) * 100000 + (tgt m d L x).toNat)
    (hn) (hin : ∀ x, (v x : BitVec 32).toNat < S102400000.size gathers_S102400000_S32.axis) (fr : Buf (Elt F) ((V d (cV L) (jV L)).loc cc0_scratch2)) (x : S32.Idx) :
    (oRowK L).view.read (Elt F) ((oRowK L).view.writes (Elt F) (m (oLoc d)) [⟨Rect.whole S32,
      ReadAs.same.apply ((Memref.whole cc0_scratch2).view.read (Elt F) ((Memref.whole cc0_scratch2).view.writes (Elt F) fr [⟨Rect.whole cc0_scratch2.ty.shape,
        SparseCore.gatherPayload gathers_S102400000_S32 ((gAllK).view.read (Elt F) (flatX m d)) (SparseCore.rows v hn hin)⟩]))⟩]) x
      = (oRowK L).view.read (Elt F) (outX m d) x := by
  have h1 := View.read_writes_cons_emb (Val := Elt F) (oRowK L).view (m (oLoc d)) (Rect.whole S32)
    (ReadAs.same.apply ((Memref.whole cc0_scratch2).view.read (Elt F) ((Memref.whole cc0_scratch2).view.writes (Elt F) fr [⟨Rect.whole cc0_scratch2.ty.shape,
        SparseCore.gatherPayload gathers_S102400000_S32 ((gAllK).view.read (Elt F) (flatX m d)) (SparseCore.rows v hn hin)⟩]))) [] x
  have h2 := View.read_writes_cons_emb (Val := Elt F) (Memref.whole cc0_scratch2).view fr (Rect.whole cc0_scratch2.ty.shape)
    (SparseCore.gatherPayload gathers_S102400000_S32 ((gAllK).view.read (Elt F) (flatX m d)) (SparseCore.rows v hn hin)) [] x
  rw [Rect.emb_whole_apply] at h1 h2
  refine (h1.trans h2).trans ?_
  unfold SparseCore.gatherPayload
  rw [View.read_apply, View.read_apply]
  refine (cast_eq _ _).trans (Eq.trans ?_ (cast_eq _ _).symm)
  show flatX m d _ = flatX m d (pos (m (tLoc d)) ((oRowK L).view.emb x))
  refine congrArg (flatX m d) (funext fun a => ?_)
  match a with
  | 0 =>
    refine Fin.ext ?_
    have hb := base_le L
    have hx : (x 0).val < 32 := (x 0).isLt
    have ht : (tgt m d L x).toNat < 100000 := hpre d _
    have ho : ((oRowK L).view.emb x 0).val = base L + (x 0).val := by
      show (k0_off1 L) 0 + 1 * (x 0).val = _
      rw [k0_off1_eq, one_mul]; rfl
    have hr : (gathers_S102400000_S32.idx (SparseCore.rows v hn hin) x 0).val = (v x : BitVec 32).toNat := by
      have := congrArg Fin.val (Shape.Gathers.idx_axis gathers_S102400000_S32 (SparseCore.rows v hn hin) x)
      refine this.trans ?_
      refine congrArg (fun y => (v y : BitVec 32).toNat) ?_
      rw [Equiv.symm_apply_eq]
      refine Fin.ext ?_
      exact (Shape.rowMajor_val_one (d := ![32]) x).symm
    show 0 + 1 * (gathers_S102400000_S32.idx (SparseCore.rows v hn hin) x 0).val = (((oRowK L).view.emb x 0).val * 100000 + (tgt m d L x).toNat) % 102400000
    rw [hr, hv, ho, Nat.mod_eq_of_lt (by omega)]; omega

set_option maxHeartbeats 4000000 in
/-- The task on the tile at `L`: the targets' fetch, the positions, the gather, the write-out. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tRowPts m d (wL L) ∗ xShPts m d (wL L) ∗ oRowPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop((tRowPts m d (wL L) ∗ xShPts m d (wL L) ∗ oRowPts d (wL L) (outX m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%fa, Ha⟩, ⟨%fl, Hl⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _).symm) $$ Ht
  ihave Ho' := (Entails.of_eq (pts_oRowK (F := F) d L _).symm) $$ Ho
  ihave Hx' := (Entails.of_eq (pts_gV (F := F) d L _ _).symm) $$ Hx
  ihave Ha' := (Entails.of_eq (pts_aV (F := F) d L _).symm) $$ Ha
  ihave Hl' := (Entails.of_eq (pts_lV (F := F) d L _).symm) $$ Hl
  ihave Hr' := (Entails.of_eq (pts_rV (F := F) d L _).symm) $$ Hr
  sl_exec
  have hrd : ∀ x, ((Memref.whole cc0_scratch1).view.read (Elt F) ((Memref.whole cc0_scratch1).view.writes (Elt F) (Memref.whole cc0_scratch1).view.junk (tile_body.sl.Hl'_2 m d L fa)) x : BitVec 32).toNat
      = (base L + (x 0).val) * 100000 + (tgt m d L x).toNat := fun x => list_read m d L hpre fa _ x
  have hin : ∀ x, ((Memref.whole cc0_scratch1).view.read (Elt F) ((Memref.whole cc0_scratch1).view.writes (Elt F) (Memref.whole cc0_scratch1).view.junk (tile_body.sl.Hl'_2 m d L fa)) x : BitVec 32).toNat
      < S102400000.size gathers_S102400000_S32.axis := fun x => by
    rw [hrd]
    have hb := base_le L
    have hx : (x 0).val < 32 := (x 0).isLt
    have ht : (tgt m d L x).toNat < 100000 := hpre d _
    show (base L + (x 0).val) * 100000 + (tgt m d L x).toNat < 102400000
    omega
  sl_exec
  have hval : ∀ i ∈ (oRowK L).view.set, (oRowK L).view.writes (Elt F) (m (oLoc d)) [⟨Rect.whole S32, tile_body.sl.dma0_1 m d L fa fr hin⟩] i = outX m d i := by
    intro i hi
    obtain ⟨x, -, rfl⟩ := Finset.mem_map.mp hi
    have h := gathered m d L hpre _ hrd (by decide) hin fr x
    rw [View.read_apply, View.read_apply] at h
    exact ((cast_eq _ _).symm.trans h).trans (cast_eq _ _)
  ihave Ho2 := (Entails.of_eq (pointsTo_congr (ℓ := (oRowK L).view.loc (V d (cV L) (jV L))) (q := fullShare) hval)) $$ Ho'
  sl_step
  isplitl [Ht' Hx' Ho2]
  · isplitl [Ht']; · iapply (Entails.of_eq (pts_tRowK (F := F) d L _)); iexact Ht'
    isplitl [Hx']; · iexact Hx'
    iapply (Entails.of_eq (pts_oRowK (F := F) d L _)); iexact Ho2
  isplitl [Ha' Hl' Hr' Hbufs]
  · isplitl [Ha']; · iexists _; iexact Ha'
    isplitl [Hl']; · iexists _; iexact Hl'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- A tile's coordinates on the SparseCore grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.Run

end
-- ==== Proof.TcBody.lean ====
/-
  The body of the TensorCore's pipelined call at one grid point, over staging buffers held whole: it adds the block's
  masked loss to the scalar the scratch holds (a zero it stores itself at the first point), and at the last point
  writes the scaled total to the output's staging buffer.
-/
module

public import proofs.«01_k».proof.Proof.Setup
public import Idealize.ShloMosaic.Lib.WritesUnit
public import Idealize.ShloMosaic.Lib.Pipeline.Value

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A buffer of core `c` addressed by a memref, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev zeroF : F .f32 := Scalar.ofBits .f32 0x00000000#32

theorem unit_zero_emb {s : Shape} {off : Fin s.rank → Nat} (hz : off = fun _ => 0) (inb : ∀ a, off a + s.size a ≤ s.size a) (x : s.Idx) :
    (Rect.unit (s := s) off s.size inb).emb x = x := by
  subst hz
  funext a
  exact Fin.ext (show 0 + 1 * (x a).val = (x a).val by omega)

section Reads
variable {Val : EltTy → Type} {sg : RefSig} {κ : Kind} {sp : Space} {s : Shape} {e : EltTy} (v : View sg κ sp s e) (f : v.ty.Contents Val)

/-- A load of the whole view reads it. -/
theorem readAt_unit_zero {off : Fin s.rank → Nat} (hz : off = fun _ => 0) (inb : ∀ a, off a + s.size a ≤ s.size a) :
    v.readAt Val (Rect.unit (s := s) off s.size inb).toLoadRect f = v.read Val f := by
  funext x
  rw [View.readAt_apply]
  exact congrArg (v.read Val f) (unit_zero_emb hz inb x)

/-- A store over the whole view leaves what was stored. -/
theorem read_writes_unit_zero {off : Fin s.rank → Nat} (hz : off = fun _ => 0) (inb : ∀ a, off a + s.size a ≤ s.size a)
    (w : s.Idx → Val e) (L : List (View.Piece Val s e)) :
    v.read Val (v.writes Val f (⟨Rect.unit (s := s) off s.size inb, w⟩ :: L)) = w := by
  funext x
  have h := View.read_writes_cons_emb (Val := Val) v f (Rect.unit (s := s) off s.size inb) w L x
  rwa [unit_zero_emb hz inb x] at h
end Reads

theorem off1 : (![0] : Fin 1 → Nat) = fun _ => 0 := funext fun a => by fin_cases a; rfl
theorem off2 : (![0, 0] : Fin 2 → Nat) = fun _ => 0 := funext fun a => by fin_cases a <;> rfl

section Body
variable (c : Dev nD) (i : grid1.Coords)
  (M1 : Memref sig .tc .vmem S32x100000 .f32) (h1 : M1.IsWhole) (M2 : Memref sig .tc .vmem S32x1 .i32) (h2 : M2.IsWhole)
  (M3 : Memref sig .tc .vmem S32x1 .f32) (h3 : M3.IsWhole) (M4 : Memref sig .tc .smem S1x1 .f32) (h4 : M4.IsWhole)
  (M5 : Memref sig .tc .smem S1 .f32) (h5 : M5.IsWhole)
  (f1 : Bf (F := F) c M1) (f2 : Bf (F := F) c M2) (f3 : Bf (F := F) c M3) (f4 : Bf (F := F) c M4) (f5 : Bf (F := F) c M5)

/-- The printed test for the first point. -/
abbrev isFirst (i : grid1.Coords) : Prop := Scalar.cmpi .ne (Scalar.extui (Scalar.cmpi .eq (BitVec.ofNat 32 (i 0).val) 0#32) : BitVec 32) 0#32 = 1#1

/-- Between the first point and the last. -/
theorem body_mid (hA : ¬ isFirst i) (hB : ¬ k1_cond2 i = 1#1) (a : F .f32) (ha : M5.view.read (Elt F) f5 = fun _ => a) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ (∃ g4, ⌜g4 = f4⌝ ∗ pt c M4 g4)
            ∗ ∃ g5, ⌜M5.view.read (Elt F) g5 = fun _ => k1_pay1 (M1.view.read (Elt F) f1) (M2.view.read (Elt F) f2) (M3.view.read (Elt F) f3) a⌝ ∗ pt c M5 g5) -∗ Q ⟨⟩))
      ⊢ wp frame (wpE (defs₀ (F := F)) 𝒱₀ c none) E (cc1__tc_body i M1 h1 M2 h2 M3 h3 M4 h4 M5 h5) Q := by
  rw [cc1__tc_body_eq_skeleton]; unfold cc1__tc_body_skel
  iintro ⟨H1, H2, H3, H4, H5, Hk⟩
  sl_exec
  sl_step
  iapply Hk
  isplitl [H1]; · iexact H1
  isplitl [H2]; · iexact H2
  isplitl [H3]; · iexact H3
  isplitl [H4]
  · iexists _; isplitr; swap; (· iexact H4)
    ipureintro
    rfl
  iexists _; isplitr; swap; (· iexact H5)
  ipureintro
  sl_unfold_words
  rw [read_writes_unit_zero _ _ off1, readAt_unit_zero _ _ off2, readAt_unit_zero _ _ off2, readAt_unit_zero _ _ off2]
  rw [readAt_unit_zero _ _ off1, ha]
  rfl

/-- At the last point. -/
theorem body_last (hA : ¬ isFirst i) (hB : k1_cond2 i = 1#1) (a : F .f32) (ha : M5.view.read (Elt F) f5 = fun _ => a) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ (∃ g4, ⌜M4.view.read (Elt F) g4 = fun _ => k1_pay2 (k1_pay1 (M1.view.read (Elt F) f1) (M2.view.read (Elt F) f2) (M3.view.read (Elt F) f3) a)⌝ ∗ pt c M4 g4)
            ∗ ∃ g5, ⌜M5.view.read (Elt F) g5 = fun _ => k1_pay1 (M1.view.read (Elt F) f1) (M2.view.read (Elt F) f2) (M3.view.read (Elt F) f3) a⌝ ∗ pt c M5 g5) -∗ Q ⟨⟩))
      ⊢ wp frame (wpE (defs₀ (F := F)) 𝒱₀ c none) E (cc1__tc_body i M1 h1 M2 h2 M3 h3 M4 h4 M5 h5) Q := by
  rw [cc1__tc_body_eq_skeleton]; unfold cc1__tc_body_skel
  iintro ⟨H1, H2, H3, H4, H5, Hk⟩
  sl_exec
  sl_step
  iapply Hk
  isplitl [H1]; · iexact H1
  isplitl [H2]; · iexact H2
  isplitl [H3]; · iexact H3
  isplitl [H4]
  · iexists _; isplitr; swap; (· iexact H4)
    ipureintro
    sl_unfold_words
    rw [read_writes_unit_zero _ _ off2, readAt_unit_zero _ _ off2, readAt_unit_zero _ _ off2, readAt_unit_zero _ _ off2]
    rw [readAt_unit_zero _ _ off1, ha]
    rfl
  iexists _; isplitr; swap; (· iexact H5)
  ipureintro
  sl_unfold_words
  rw [read_writes_unit_zero _ _ off1, readAt_unit_zero _ _ off2, readAt_unit_zero _ _ off2, readAt_unit_zero _ _ off2]
  rw [readAt_unit_zero _ _ off1, ha]
  rfl

/-- At the first point. -/
theorem body_first (hA : isFirst i) (hB : ¬ k1_cond2 i = 1#1) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ (∃ g4, ⌜g4 = f4⌝ ∗ pt c M4 g4)
            ∗ ∃ g5, ⌜M5.view.read (Elt F) g5 = fun _ => k1_pay1 (M1.view.read (Elt F) f1) (M2.view.read (Elt F) f2) (M3.view.read (Elt F) f3) zeroF⌝ ∗ pt c M5 g5) -∗ Q ⟨⟩))
      ⊢ wp frame (wpE (defs₀ (F := F)) 𝒱₀ c none) E (cc1__tc_body i M1 h1 M2 h2 M3 h3 M4 h4 M5 h5) Q := by
  rw [cc1__tc_body_eq_skeleton]; unfold cc1__tc_body_skel
  iintro ⟨H1, H2, H3, H4, H5, Hk⟩
  sl_exec
  sl_step
  iapply Hk
  isplitl [H1]; · iexact H1
  isplitl [H2]; · iexact H2
  isplitl [H3]; · iexact H3
  isplitl [H4]
  · iexists _; isplitr; swap; (· iexact H4)
    ipureintro
    rfl
  iexists _; isplitr; swap; (· iexact H5)
  ipureintro
  sl_unfold_words
  rw [read_writes_unit_zero _ _ off1, readAt_unit_zero _ _ off2, readAt_unit_zero _ _ off2, readAt_unit_zero _ _ off2]
  rfl

end Body

end Cert.Proof.Run

end
-- ==== Proof.TcRegion.lean ====
/-
  The TensorCore's pipelined call as one region of the program: thirty-two points, each adding its block's masked loss
  to the running scalar the scratch carries from point to point; the one write-back, at the last point, puts the scaled
  total in the result's array.
-/
module

public import proofs.«01_k».proof.Proof.TcBody
public import Idealize.ShloMosaic.Lib.Pipeline.Regions
public import Idealize.ShloMosaic.Lib.Pipeline.RegionsLoop

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The blocks of `x`, of the targets and of the gathered entries at point `t`. -/
abbrev blkX (c : Dev nD) (t : Fin cfg1.N) : Vec F S32x100000 .f32 := ((cfg1.win 0).blk t).view.read (Elt F) (V c main_arg0)
abbrev blkT (c : Dev nD) (t : Fin cfg1.N) : Vec F S32x1 .i32 := ((cfg1.win 1).blk t).view.read (Elt F) (V c main_v2)
abbrev blkG (c : Dev nD) (t : Fin cfg1.N) : Vec F S32x1 .f32 := ((cfg1.win 2).blk t).view.read (Elt F) (V c main_v3)

/-- The running scalar before point `n`. -/
def acc (c : Dev nD) : ℕ → F .f32
  | 0 => zeroF
  | n + 1 => if h : n < cfg1.N then k1_pay1 (blkX V c ⟨n, h⟩) (blkT V c ⟨n, h⟩) (blkG V c ⟨n, h⟩) (acc c n) else acc c n

theorem acc_succ (c : Dev nD) (t : Fin cfg1.N) : acc V c (t.val + 1) = k1_pay1 (blkX V c t) (blkT V c t) (blkG V c t) (acc V c t.val) := by
  rw [acc, dif_pos t.isLt]

/-- What the last point stores. -/
abbrev total (c : Dev nD) : F .f32 := k1_pay2 (acc V c 32)

/-- Between points the scratch holds the running scalar (before the first point, anything). -/
abbrev Φs (c : Dev nD) (n : ℕ) : sProp 𝕄 :=
  iprop(∃ f : Buf (Elt F) ((c : Thread nD τ).loc cc1_scratch0), ⌜n ≠ 0 → f = fun _ => acc V c n⌝ ∗ ((c : Thread nD τ).loc cc1_scratch0) ↦{fullShare} f)

/-- The proof data of the region from valuation `V`; `b` bounds the level of every wait recorded before it. -/
def dat (b : ℕ) (c : Dev nD) : Dat τ (Elt F) (HIx 1) ℕ UU ℕ cfg1 c where
  A w := V c (Pipeline.arrRef spec1 w)
  after w t := match w with
    | ⟨0, _⟩ => blkX V c t
    | ⟨1, _⟩ => blkT V c t
    | ⟨2, _⟩ => blkG V c t
    | ⟨3, _⟩ => fun _ => total V c
  Φ t := Φs V c t.val
  q _ := fullShare
  owed _ := 0
  recorded _ := {p | (K (F := F)).lev ((c : Thread nD τ), p.1) p.2 ≤ b}

theorem before_0 (b : ℕ) (c : Dev nD) (t : Fin cfg1.N) (d) : (dat V b c).before 0 t d = blkX V c t := by
  unfold Dat.before; rw [if_pos (fetch1_0 t)]; rfl
theorem before_1 (b : ℕ) (c : Dev nD) (t : Fin cfg1.N) (d) : (dat V b c).before 1 t d = blkT V c t := by
  unfold Dat.before; rw [if_pos (fetch1_1 t)]; rfl
theorem before_2 (b : ℕ) (c : Dev nD) (t : Fin cfg1.N) (d) : (dat V b c).before 2 t d = blkG V c t := by
  unfold Dat.before; rw [if_pos (fetch1_2 t)]; rfl

/-- Owning a whole buffer at given contents is holding it at contents read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem isFirst_iff : ∀ t : Fin cfg1.N, isFirst (grid1.coords t) ↔ t.val = 0 := by decide
theorem isLast_iff : ∀ t : Fin cfg1.N, k1_cond2 (grid1.coords t) = 1#1 ↔ t.val = 31 := by decide

/-- What the output window's staging buffer is asked for after point `t`. -/
abbrev out3 (b : ℕ) (c : Dev nD) (t : Fin cfg1.N) : sProp 𝕄 :=
  match idle1 3 (grid1.coords t) with
  | true =>
    match (win1 3).flush t with
    | false => iprop(∃ d, owns (c : Thread nD τ) (st1_3 t) fullShare ((dat V b c).before 3 t d))
    | true => owns (c : Thread nD τ) (st1_3 t) fullShare ((dat V b c).after 3 t)
  | false => owns (c : Thread nD τ) (st1_3 t) fullShare ((dat V b c).after 3 t)

theorem out3_mid (b : ℕ) (c : Dev nD) (t : Fin cfg1.N) (ht : t.val ≠ 31) :
    out3 V b c t = iprop(∃ d, owns (c : Thread nD τ) (st1_3 t) fullShare ((dat V b c).before 3 t d)) := by
  have hN : cfg1.N = 32 := N_1
  have h1 : idle1 3 (grid1.coords t) = true := by
    have : ¬ k1_cond2 (grid1.coords t) = 1#1 := fun h => ht ((isLast_iff t).mp h)
    show (!(k1_cond2 (grid1.coords t) == 1#1)) = true
    simp [this]
  have h2 : (win1 3).flush t = false := by
    rw [Bool.eq_false_iff]
    intro h
    have := (flush1_3 t).mp h
    have := t.isLt
    omega
  unfold out3; rw [h1]; dsimp only; rw [h2]
theorem out3_last (b : ℕ) (c : Dev nD) (t : Fin cfg1.N) (ht : t.val = 31) :
    out3 V b c t = owns (c : Thread nD τ) (st1_3 t) fullShare (fun _ => total V c) := by
  have h1 : idle1 3 (grid1.coords t) = false := by
    show (!(k1_cond2 (grid1.coords t) == 1#1)) = false
    rw [(isLast_iff t).mpr ht]; rfl
  unfold out3; rw [h1]; rfl

/-- Each point's body meets the pipeline's obligation. -/
theorem body_obligation (b : ℕ) (c : Dev nD) : BodyObligation (dat V b c) (defs₀ (F := F)) 𝒱₀ (default : HIx 1) Set.univ := fun t => by
  have hN : cfg1.N = 32 := N_1
  rw [bigSep_W1, bigSep_W1]
  change _ ⊢ wp _ _ _ (bodyAt1 t) _
  rw [show (dat V b c).owesAt (default : HIx 1) t.succ = (dat V b c).owesAt (default : HIx 1) t.castSucc from rfl,
    show (dat V b c).Φ t.castSucc = Φs V c t.val from rfl, show (dat V b c).Φ t.succ = Φs V c (t.val + 1) from rfl]
  dsimp only
  iintro ⟨⟨%f5, %hf5, H5⟩, Howes, ⟨%d0, H1⟩, ⟨%d1, H2⟩, ⟨%d2, H3⟩, %d3, H4⟩
  rw [before_0, before_1, before_2]
  ihave H1 := (Entails.of_eq (owns_pt c _ (hstage1_0 _) _)) $$ H1
  ihave H2 := (Entails.of_eq (owns_pt c _ (hstage1_1 _) _)) $$ H2
  ihave H3 := (Entails.of_eq (owns_pt c _ (hstage1_2 _) _)) $$ H3
  ihave H4 := (Entails.of_eq (owns_pt c _ (hstage1_3 _) _)) $$ H4
  icases H1 with ⟨%f1, %hf1, H1⟩
  icases H2 with ⟨%f2, %hf2, H2⟩
  icases H3 with ⟨%f3, %hf3, H3⟩
  icases H4 with ⟨%f4, %hf4, H4⟩
  by_cases hA : t.val = 0
  · have hL : t.val ≠ 31 := by omega
    iapply (body_first c (grid1.coords t) _ _ _ _ _ _ _ _ _ _ f1 f2 f3 f4 f5 ((isFirst_iff t).mpr hA) (fun h => hL ((isLast_iff t).mp h)))
    isplitl [H1]; · iexact H1
    isplitl [H2]; · iexact H2
    isplitl [H3]; · iexact H3
    isplitl [H4]; · iexact H4
    isplitl [H5]; · iexact H5
    iintro ⟨H1, H2, H3, ⟨%g4, %hg4, H4⟩, %g5, %hg5, H5⟩
    isplitl [H5]
    · iexists _; isplitr; swap; (· iexact H5)
      ipureintro; intro _
      refine (View.read_whole (Val := Elt F) cc1_scratch0 g5).symm.trans (hg5.trans ?_)
      rw [hf1, hf2, hf3, acc_succ, hA]
      try rfl
    isplitl [Howes]; · iexact Howes
    isplitl [H1]; · iapply (Entails.of_eq (owns_pt c _ (hstage1_0 _) _).symm); iexists _; isplitr; swap; (· iexact H1); ipureintro; exact hf1
    isplitl [H2]; · iapply (Entails.of_eq (owns_pt c _ (hstage1_1 _) _).symm); iexists _; isplitr; swap; (· iexact H2); ipureintro; exact hf2
    isplitl [H3]; · iapply (Entails.of_eq (owns_pt c _ (hstage1_2 _) _).symm); iexists _; isplitr; swap; (· iexact H3); ipureintro; exact hf3
    iapply (Entails.of_eq (out3_mid V b c t hL).symm); iexists d3
    iapply (Entails.of_eq (owns_pt c _ (hstage1_3 _) _).symm); iexists _; isplitr; swap; (· iexact H4)
    ipureintro; rw [hg4]; exact hf4
  · have hF : ¬ isFirst (grid1.coords t) := fun h => hA ((isFirst_iff t).mp h)
    have ha : (Memref.whole cc1_scratch0 : Memref sig .tc .smem S1 .f32).view.read (Elt F) f5 = fun _ => acc V c t.val := (View.read_whole (Val := Elt F) cc1_scratch0 f5).trans (hf5 hA)
    by_cases hL : t.val = 31
    · iapply (body_last c (grid1.coords t) _ _ _ _ _ _ _ _ _ _ f1 f2 f3 f4 f5 hF ((isLast_iff t).mpr hL) _ ha)
      isplitl [H1]; · iexact H1
      isplitl [H2]; · iexact H2
      isplitl [H3]; · iexact H3
      isplitl [H4]; · iexact H4
      isplitl [H5]; · iexact H5
      iintro ⟨H1, H2, H3, ⟨%g4, %hg4, H4⟩, %g5, %hg5, H5⟩
      isplitl [H5]
      · iexists _; isplitr; swap; (· iexact H5)
        ipureintro; intro _
        refine (View.read_whole (Val := Elt F) cc1_scratch0 g5).symm.trans (hg5.trans ?_)
        rw [hf1, hf2, hf3, acc_succ]
        try rfl
      isplitl [Howes]; · iexact Howes
      isplitl [H1]; · iapply (Entails.of_eq (owns_pt c _ (hstage1_0 _) _).symm); iexists _; isplitr; swap; (· iexact H1); ipureintro; exact hf1
      isplitl [H2]; · iapply (Entails.of_eq (owns_pt c _ (hstage1_1 _) _).symm); iexists _; isplitr; swap; (· iexact H2); ipureintro; exact hf2
      isplitl [H3]; · iapply (Entails.of_eq (owns_pt c _ (hstage1_2 _) _).symm); iexists _; isplitr; swap; (· iexact H3); ipureintro; exact hf3
      iapply (Entails.of_eq (out3_last V b c t hL).symm)
      iapply (Entails.of_eq (owns_pt c _ (hstage1_3 _) _).symm); iexists _; isplitr; swap; (· iexact H4)
      ipureintro; rw [hg4, hf1, hf2, hf3, ← acc_succ, hL]; rfl
    · iapply (body_mid c (grid1.coords t) _ _ _ _ _ _ _ _ _ _ f1 f2 f3 f4 f5 hF (fun h => hL ((isLast_iff t).mp h)) _ ha)
      isplitl [H1]; · iexact H1
      isplitl [H2]; · iexact H2
      isplitl [H3]; · iexact H3
      isplitl [H4]; · iexact H4
      isplitl [H5]; · iexact H5
      iintro ⟨H1, H2, H3, ⟨%g4, %hg4, H4⟩, %g5, %hg5, H5⟩
      isplitl [H5]
      · iexists _; isplitr; swap; (· iexact H5)
        ipureintro; intro _
        refine (View.read_whole (Val := Elt F) cc1_scratch0 g5).symm.trans (hg5.trans ?_)
        rw [hf1, hf2, hf3, acc_succ]
        try rfl
      isplitl [Howes]; · iexact Howes
      isplitl [H1]; · iapply (Entails.of_eq (owns_pt c _ (hstage1_0 _) _).symm); iexists _; isplitr; swap; (· iexact H1); ipureintro; exact hf1
      isplitl [H2]; · iapply (Entails.of_eq (owns_pt c _ (hstage1_1 _) _).symm); iexists _; isplitr; swap; (· iexact H2); ipureintro; exact hf2
      isplitl [H3]; · iapply (Entails.of_eq (owns_pt c _ (hstage1_2 _) _).symm); iexists _; isplitr; swap; (· iexact H3); ipureintro; exact hf3
      iapply (Entails.of_eq (out3_mid V b c t hL).symm); iexists d3
      iapply (Entails.of_eq (owns_pt c _ (hstage1_3 _) _).symm); iexists _; isplitr; swap; (· iexact H4)
      ipureintro; rw [hg4]; exact hf4

/-- The last point. -/
def lastPt : Fin cfg1.N := ⟨31, lt_of_lt_of_eq (by decide) N_1.symm⟩

/-- The result's array after the region: the last point's total. -/
theorem final_out (b : ℕ) (c : Dev nD) : (dat V b c).arrAt 3 cfg1.N = fun _ => total V c := by
  have hN : cfg1.N = 32 := N_1
  refine (dat V b c).arrAt_eq_of_cover 3 (fun _ => total V c) (fun t hf => ?_) fun i => ⟨lastPt, (flush1_3 lastPt).mpr rfl, ?_⟩
  · show (cfg1.win 3).cut (grid1.coords t) ((dat V b c).after 3 t) = _
    rfl
  · show i ∈ ((View.whole main_v4).slice (win1_3.rect lastPt)).set
    rw [View.set_slice_whole, Rect.mem_set_unit]
    intro a
    have h0 : (i 0 : Nat) < 1 := (i 0).isLt
    have h1 : (i 1 : Nat) < 1 := (i 1).isLt
    match a with
    | ⟨0, _⟩ => exact ⟨Nat.zero_le _, h0⟩
    | ⟨1, _⟩ => exact ⟨Nat.zero_le _, h1⟩

variable (adm : (p : Fin 1) → (pcfgs (F := F) p).Adm)

/-- The proof data of the one pipeline. -/
def pdats (b : ℕ) : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

set_option backward.isDefEq.respectTransparency.types false in
/-- The region over the unscoped buffers at `V`, left with the result's array at the total (`Vp`). -/
def reg (b : ℕ) (hVp_out : ∀ c, Vp c main_v4 = fun _ => total V c) (hVp_ne : ∀ c (r : Ref sig .tc), r ≠ main_v4 → Vp c r = V c r) :
    Pipeline.RegionSeg (pcfgs (F := F)) adm (pdats V adm b) (default : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W b⌝ ∗ owes (c : Thread nD τ) (0 : CellTallies nD τ sig (HIx 1)) W)
  post c := iprop(unscopedBufs c (Vp c) ∗ ∃ W, ⌜(K (F := F)).WBelow (c : Thread nD τ) W b⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V adm b) (launch1).win (launch1).arr_whole c
      ((pdats V adm b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm b 0 c).Φ 0 = Φs V c 0 from rfl]
    refine (show _ ⊢ (Pipeline.scopedRest spec1 c : sProp 𝕄) from ?_).trans ?_
    · iintro ⟨-, -, Hr⟩; iexact Hr
    rw [scopedRest1_eq]
    iintro ⟨%f, H⟩
    iexists f; isplitr
    · ipureintro; exact fun h => absurd rfl h
    iexact H
  hout c := by
    rw [Pipeline.ownSems0_none, show (pdats V adm b 0 c).Φ (Fin.last _) = Φs V c cfg1.N from rfl]
    have h : Φs V c cfg1.N ⊢ (Pipeline.scopedRest spec1 c : sProp 𝕄) := by
      rw [scopedRest1_eq]
      unfold Φs
      iintro ⟨%f, -, H⟩
      iexists f; iexact H
    refine h.trans ?_
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm b) ((pdats V adm b 0 c).share_full fun _ => rfl) (V c) (Vp c) ((pdats V adm b 0 c).arrAt · cfg1.N)
      (fun w => by
        fin_cases w
        · exact ((pdats V adm b 0 c).arrAt_in 0 rfl _).trans (hVp_ne c main_arg0 (by decide)).symm
        · exact ((pdats V adm b 0 c).arrAt_in 1 rfl _).trans (hVp_ne c main_v2 (by decide)).symm
        · exact ((pdats V adm b 0 c).arrAt_in 2 rfl _).trans (hVp_ne c main_v3 (by decide)).symm
        · exact (final_out V b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.Run

end
-- ==== Proof.Launch.lean ====
/-
  The program's run: @main's steps in order on the TensorCore (flatten `x`, the SparseCore call, the two columns, the
  pipelined call, the scalar), the buffers' contents named between them, and the whole mesh's run from any launch
  memory whose targets are columns.
-/
module

public import proofs.«01_k».proof.Proof.Tile
public import proofs.«01_k».proof.Proof.TcRegion

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents between the steps -/

abbrev opFlat : HloOp τ sig (Elt F) := StableHlo.reshape main_arg0 main_v0 (rfl : (.f32 : EltTy) = .f32) shapeCasts_S1024x100000_S102400000
abbrev opT : HloOp τ sig (Elt F) := StableHlo.reshape main_arg1 main_v2 (rfl : (.i32 : EltTy) = .i32) shapeCasts_S1024_S1024x1
abbrev opG : HloOp τ sig (Elt F) := StableHlo.reshape main_v1 main_v3 (rfl : (.f32 : EltTy) = .f32) shapeCasts_S1024_S1024x1
abbrev opR : HloOp τ sig (Elt F) := StableHlo.reshape main_v4 main_v5 (rfl : (.f32 : EltTy) = .f32) shapeCasts_S1x1_S_

/-- At the launch; -/
def W0 (d : Dev nD) : Valuation τ sig (Elt F) := fun b => m (d, b)
/-- `x` flattened; -/
def W1 (d : Dev nD) : Valuation τ sig (Elt F) := (opFlat (F := F)).result (W0 m d)
/-- after the SparseCore call; -/
def W2 (d : Dev nD) : Valuation τ sig (Elt F) := Function.update (W1 m d) (Proc.devRef .tc main_v1) (outX m d)
/-- the targets as a column; -/
def W3 (d : Dev nD) : Valuation τ sig (Elt F) := (opT (F := F)).result (W2 m d)
/-- the picked entries as a column; -/
def W4 (d : Dev nD) : Valuation τ sig (Elt F) := (opG (F := F)).result (W3 m d)
/-- the same at the TensorCore's references: what the pipelined call is entered at; -/
def V4 : (c : Dev nD) → (b : Ref sig .tc) → Buf (Elt F) ((c : Thread nD τ).loc b) := fun c b => W4 m c b
/-- after it; -/
def W5 (d : Dev nD) : Valuation τ sig (Elt F) := Function.update (W4 m d) (Proc.devRef .tc main_v4) (fun _ => total (V4 m) d)
def V5 : (c : Dev nD) → (b : Ref sig .tc) → Buf (Elt F) ((c : Thread nD τ).loc b) := fun c b => W5 m c b
/-- and at the end. -/
def W6 (d : Dev nD) : Valuation τ sig (Elt F) := (opR (F := F)).result (W5 m d)

theorem V5_out (d : Dev nD) : V5 m d main_v4 = fun _ => total (V4 m) d := by
  show W5 m d main_v4 = _
  unfold W5; exact Function.update_self ..
theorem V5_ne (d : Dev nD) (b : Ref sig .tc) (h : b ≠ main_v4) : V5 m d b = V4 m d b :=
  Function.update_of_ne (StableHlo.devRef_ne_of_ne h) ..

theorem W1_v0 (d : Dev nD) : W1 m d main_v0 = flatX m d := StableHlo.reshape_result ..
theorem W1_ne (d : Dev nD) (b : Ref sig .tc) (h : b ≠ main_v0) : W1 m d b = W0 m d b := StableHlo.reshape_result_ne _ _ _ _ _ _ _ h
theorem W2_v1 (d : Dev nD) : W2 m d main_v1 = outX m d := Function.update_self ..
theorem W2_ne (d : Dev nD) (b : Ref sig .tc) (h : b ≠ main_v1) : W2 m d b = W1 m d b :=
  Function.update_of_ne (StableHlo.devRef_ne_of_ne h) ..
theorem W3_ne (d : Dev nD) (b : Ref sig .tc) (h : b ≠ main_v2) : W3 m d b = W2 m d b := StableHlo.reshape_result_ne _ _ _ _ _ _ _ h
theorem W4_ne (d : Dev nD) (b : Ref sig .tc) (h : b ≠ main_v3) : W4 m d b = W3 m d b := StableHlo.reshape_result_ne _ _ _ _ _ _ _ h
theorem W6_ne (d : Dev nD) (b : Ref sig .tc) (h : b ≠ main_v5) : W6 m d b = W5 m d b := StableHlo.reshape_result_ne _ _ _ _ _ _ _ h

/-- `x` as the pipelined call finds it: as launched. -/
theorem V4_arg0 (d : Dev nD) : V4 m d main_arg0 = m (aLoc d) := by
  show W4 m d main_arg0 = _
  rw [W4_ne _ _ _ (by decide), W3_ne _ _ _ (by decide), W2_ne _ _ _ (by decide), W1_ne _ _ _ (by decide)]; rfl
/-- Its column of targets. -/
theorem V4_v2 (d : Dev nD) : V4 m d main_v2 = shapeCast S1024x1 (m (tLoc d) : S1024.Idx → BitVec 32) shapeCasts_S1024_S1024x1 := by
  show W4 m d main_v2 = _
  rw [W4_ne _ _ _ (by decide)]
  refine (StableHlo.reshape_result ..).trans ?_
  rw [W2_ne _ _ _ (by decide), W1_ne _ _ _ (by decide)]; rfl
/-- Its column of picked entries. -/
theorem V4_v3 (d : Dev nD) : V4 m d main_v3 = shapeCast S1024x1 (outX m d : S1024.Idx → F .f32) shapeCasts_S1024_S1024x1 := by
  show W4 m d main_v3 = _
  refine (StableHlo.reshape_result ..).trans ?_
  rw [W3_ne _ _ _ (by decide), W2_v1]; rfl

theorem W6_v5 (d : Dev nD) : W6 m d main_v5 = fun _ => total (V4 m) d := by
  refine (StableHlo.reshape_result ..).trans ?_
  rw [show W5 m d main_v4 = fun _ => total (V4 m) d from V5_out m d]; rfl
theorem W6_arg0 (d : Dev nD) : W6 m d main_arg0 = m (aLoc d) := by
  rw [W6_ne _ _ _ (by decide)]; exact (V5_ne m d _ (by decide)).trans (V4_arg0 m d)
theorem W6_arg1 (d : Dev nD) : W6 m d main_arg1 = m (tLoc d) := by
  rw [W6_ne _ _ _ (by decide)]; refine (V5_ne m d _ (by decide)).trans ?_
  show W4 m d main_arg1 = _
  rw [W4_ne _ _ _ (by decide), W3_ne _ _ _ (by decide), W2_ne _ _ _ (by decide), W1_ne _ _ _ (by decide)]; rfl

/-! ## The SparseCore call's operands dealt to the thirty-two tiles -/

theorem tRowSet_eq (w : Fin 32) : tRowSet w = (row w).set := by
  show ((View.whole (main_arg1_scv : Ref sig .scVector)).slice (row w)).set = _
  rw [View.set_slice]; exact Finset.map_refl
theorem oRowSet_eq (w : Fin 32) : oRowSet w = (row w).set := by
  show ((View.whole (main_v1_scv : Ref sig .scVector)).slice (row w)).set = _
  rw [View.set_slice]; exact Finset.map_refl
theorem tPts_rows (d : Dev nD) (f : Buf (Elt F) (tLoc d)) :
    (tLoc d ↦{fullShare} f : sProp 𝕄) = bigSep Finset.univ fun w : Fin 32 => tLoc d ↦[tRowSet w]{fullShare} f := by
  rw [← pointsTo_biUnion Finset.univ (ℓ := tLoc d) tRowSet fun i _ j _ h => by rw [tRowSet_eq, tRowSet_eq]; exact Rect.part_disjoint ddiv h,
    (Finset.biUnion_congr rfl fun i _ => tRowSet_eq i).trans (Rect.biUnion_part ddiv)]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet fun i _ j _ h => by rw [oRowSet_eq, oRowSet_eq]; exact Rect.part_disjoint ddiv h,
    (Finset.biUnion_congr rfl fun i _ => oRowSet_eq i).trans (Rect.biUnion_part ddiv)]; try rfl
theorem gPts_shares (d : Dev nD) (f : Buf (Elt F) (gLoc d)) :
    (gLoc d ↦{fullShare} f : sProp 𝕄) = bigSep Finset.univ fun w : Fin 32 => gLoc d ↦{xq w} f :=
  ShareLeaves.pointsTo_leaves Finset.univ f 5 fullShare

/-- The tiles counted SparseCore by SparseCore are the tiles. -/
theorem bigSep_wid (Φ : Fin 32 → sProp 𝕄) :
    (bigSep Finset.univ fun c : Fin 2 => bigSep Finset.univ fun i : Fin 16 => Φ (wid c i)) = bigSep Finset.univ Φ := by
  rw [← bigSep_univ_prod (fun p : Fin 2 × Fin 16 => Φ (wid p.1 p.2))]
  exact (bigSep_univ_equiv ((Equiv.prodComm (Fin 2) (Fin 16)).trans (finProdFinEquiv : Fin 16 × Fin 2 ≃ Fin 32)) Φ).symm

theorem st0_eq (d : Dev nD) : (bigSep Finset.univ fun c : Fin ((K (F := F)).nCore 0) => (P m).st 0 d c)
    = iprop((tLoc d ↦{fullShare} m (tLoc d)) ∗ (gLoc d ↦{fullShare} flatX m d) ∗ oLoc d ↦{fullShare} m (oLoc d)) := by
  rw [tPts_rows, gPts_shares, oPts_rows, ← bigSep_sep', ← bigSep_sep']
  exact bigSep_wid (fun w => goW m d w)
theorem dn0_eq (d : Dev nD) : (bigSep Finset.univ fun c : Fin ((K (F := F)).nCore 0) => (P m).dn 0 d c)
    = iprop((tLoc d ↦{fullShare} m (tLoc d)) ∗ (gLoc d ↦{fullShare} flatX m d) ∗ oLoc d ↦{fullShare} outX m d) := by
  rw [tPts_rows, gPts_shares, oPts_rows, ← bigSep_sep', ← bigSep_sep']
  exact bigSep_wid (fun w => tdW m d w)

/-! ## The launch element of the ghost state -/

abbrev adm : (p : Fin 1) → (pcfgs (F := F) p).Adm := fun p => (cfgs p).toPCfg_adm
abbrev phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the pipelined call's proof takes from the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  have hR : (BI.own ((embR : Emb (UP × Counters) 𝕄) (initOf (Pipeline.cells (Pipeline.pin (pcfgs (F := F)) adm) phinj) (Pipeline.launchToks (Pipeline.pin (pcfgs (F := F)) adm) phinj), (1 : Counters))) : sProp 𝕄)
      ⊢ BI.own (EP (initOf (Pipeline.cells (Pipeline.pin (pcfgs (F := F)) adm) phinj) (Pipeline.launchToks (Pipeline.pin (pcfgs (F := F)) adm) phinj))) :=
    (own_pair_emb (embR : Emb (UP × Counters) 𝕄) _ _).trans sep_elim_left
  ihave HP := hR $$ HR
  imod (Pipeline.fund_ghost (Pipeline.pin (pcfgs (F := F)) adm) EP phinj) $$ HP with ⟨Hg, Ht⟩
  imodintro
  isplitl [HH]; · iexact HH
  isplitl
  · rw [bigSep_sep']
    isplitl [Hg]
    · iapply (Entails.of_eq (bigSep_congr (Φ := fun c : Dev nD => bigSep Finset.univ fun p : Fin 1 => Pipeline.cellsGhost (Pipeline.pin (pcfgs (F := F)) adm) EP p c) (Ψ := fun c : Dev nD => Pipeline.cellsGhost (Pipeline.pin (pcfgs (F := F)) adm) EP 0 c) fun c _ => bigSep_univ_of_subsingleton (0 : Fin 1))); iexact Hg
    · iapply (Entails.of_eq (bigSep_congr (Φ := fun c : Dev nD => bigSep Finset.univ fun p : Fin 1 => Pipeline.toksInit (Pipeline.pin (pcfgs (F := F)) adm) EP p c) (Ψ := fun c : Dev nD => Pipeline.toksInit (Pipeline.pin (pcfgs (F := F)) adm) EP 0 c) fun c _ => bigSep_univ_of_subsingleton (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (gLoc d ↦{fullShare} W main_v0)
      ∗ (oLoc d ↦{fullShare} W main_v1) ∗ ((SparseCore.T d).loc main_v2 ↦{fullShare} W main_v2) ∗ ((SparseCore.T d).loc main_v3 ↦{fullShare} W main_v3)
      ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev rLoc (d : Dev nD) : Loc nD τ sig := (SparseCore.T d).loc main_v5

abbrev FIN (d : Dev nD) : sProp 𝕄 :=
  iprop((aLoc d ↦{fullShare} m (aLoc d)) ∗ (tLoc d ↦{fullShare} m (tLoc d)) ∗ rLoc d ↦{fullShare} (fun _ => total (V4 m) d))

theorem held_of (d : Dev nD) (W : Valuation τ sig (Elt F)) :
    (held (SparseCore.T d) (Pipeline.ucRefs τ sig) W : sProp 𝕄) = unscopedBufs d (fun b => W b) := (Pipeline.unscopedBufs_held d W).symm

/-- Around the SparseCore call: its operands out of the buffers, -/
theorem call_in (d : Dev nD) : (unscopedBufs d (fun b => W1 m d b) : sProp 𝕄)
    ⊢ iprop(((tLoc d ↦{fullShare} m (tLoc d)) ∗ (gLoc d ↦{fullShare} flatX m d) ∗ oLoc d ↦{fullShare} m (oLoc d))
      ∗ (((tLoc d ↦{fullShare} m (tLoc d)) ∗ (gLoc d ↦{fullShare} flatX m d) ∗ oLoc d ↦{fullShare} outX m d) -∗ unscopedBufs d (fun b => W2 m d b))) := by
  rw [unscopedBufs_eq, unscopedBufs_eq]
  rw [W2_v1, W2_ne _ _ main_arg0 (by decide), W2_ne _ _ main_arg1 (by decide), W2_ne _ _ main_v0 (by decide), W2_ne _ _ main_v2 (by decide),
    W2_ne _ _ main_v3 (by decide), W2_ne _ _ main_v4 (by decide), W2_ne _ _ main_v5 (by decide), W1_v0,
    show W1 m d main_arg1 = m (tLoc d) from W1_ne _ _ _ (by decide), show W1 m d main_v1 = m (oLoc d) from W1_ne _ _ _ (by decide)]
  iintro ⟨Ha, Ht, Hg, Ho, H⟩
  isplitl [Ht Hg Ho]
  · isplitl [Ht]; · iexact Ht
    isplitl [Hg]; · iexact Hg
    iexact Ho
  iintro ⟨Ht, Hg, Ho⟩
  isplitl [Ha]; · iexact Ha
  isplitl [Ht]; · iexact Ht
  isplitl [Hg]; · iexact Hg
  isplitl [Ho]; · iexact Ho
  iexact H

abbrev theReg (b : ℕ) := reg (V4 m) adm (V5 m) b (V5_out m) (V5_ne m)

/-- What the TensorCore's waits have recorded, bounded, and nothing owed. -/
abbrev idleOwes (d : Dev nD) (b : ℕ) : sProp 𝕄 :=
  iprop(∃ W, ⌜(K (F := F)).WBelow (SparseCore.T d) W b⌝ ∗ owes (SparseCore.T d) (0 : CellTallies nD τ sig (HIx 1)) W)

theorem theReg_pre (b : ℕ) (d : Dev nD) : (theReg m b).pre d = iprop(unscopedBufs d (V4 m d) ∗ idleOwes d b) := rfl
theorem theReg_post (b : ℕ) (d : Dev nD) : (theReg m b).post d = iprop(unscopedBufs d (V5 m d) ∗ idleOwes d b) := rfl

set_option backward.isDefEq.respectTransparency.types false in
/-- The pipelined call as a step of @main. -/
theorem wp_region [∀ e, Nonempty (Elt F e)] (κ : GSem nD τ sig → ℕ) (d : Dev nD) (b : ℕ) (Q : PUnit → sProp 𝕄) :
    iprop((iprop(boundary (SparseCore.T d) ∗ unscopedBufs d (V5 m d) ∗ idleOwes d b) -∗ Q ⟨⟩)
        ∗ boundary (SparseCore.T d) ∗ (unscopedBufs d (V4 m d) ∗ idleOwes d b) ∗ (K (F := F)).ctx EH (P m) κ ∗ G d)
      ⊢ wp frame (wpE ((K (F := F)).defs (D (F := F))) 𝒱 (SparseCore.T d) none) Set.univ
          (Prog.lift (.customCall (SparseCore.inner (Pipeline.entry 0)) ())) Q := by
  have hl : (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) Prog.ret) := rfl
  rw [hl]
  have hlift := (K (F := F)).wp_liftProg (D (F := F)) 𝒱 (SparseCore.T d) Set.univ none (Prog.op (.customCall (Pipeline.entry 0) ()) Prog.ret) Q
  have hreg := Pipeline.RegionSeg.wp (pcfgs (F := F)) adm (pdats (V4 m) adm b) (default : HIx 1) phinj EP defs₀ 𝒱₀ (K (F := F)).L (K (F := F)).lev
    (theReg m b) d none (fun u hu => nomatch hu) Prog.ret Q
  rw [theReg_pre, theReg_post] at hreg
  have hlev := SparseCore.Cfg.ctx_levAts (K := K (F := F)) (EH := EH) (P := P m) κ (lv := (K (F := F)).lev)
  iintro ⟨HQ, Hb, Hpre, Hctx, Hg, Ht⟩
  iapply hlift
  iapply hreg
  isplitl [HQ]
  · iintro ⟨Hb, Hpost⟩
    rw [wp_ret]
    imodintro
    iapply HQ
    isplitl [Hb]; · iexact Hb
    iexact Hpost
  isplitl [Hb]; · iexact Hb
  isplitl [Hpre]; · iexact Hpre
  isplitl [Hctx]; · iapply hlev; iexact Hctx
  isplitl [Hg] <;> iassumption

/-- A flattening step of @main. -/
theorem wp_reshape (d : Dev nD) (op : HloOp τ sig (Elt F)) (hop : op.bufs ⊆ StableHlo.tcRefs τ sig) (hf : op.fresh = ∅) (W W' : Valuation τ sig (Elt F)) (hW : op.result W = W') (Q : PUnit → sProp 𝕄) :
    iprop((boundary (SparseCore.T d) ∗ unscopedBufs d (fun b => W b))
        ∗ (iprop(boundary (SparseCore.T d) ∗ unscopedBufs d (fun b => W' b)) -∗ Q ⟨⟩))
      ⊢ wp frame (wpE ((K (F := F)).defs (D (F := F))) 𝒱 (SparseCore.T d) none) Set.univ
          (hlo rfl op (fun _ => .ret ⟨⟩)) Q := by
  subst hW
  rw [Pipeline.unscopedBufs_held d W, Pipeline.unscopedBufs_held d (op.result W)]
  iintro ⟨H, HQ⟩
  iapply (StableHlo.wp_hlo_within 𝒱 (SparseCore.T d) none Set.univ (op := op) (V := W) (Pipeline.sub_ucRefs _ hop) hf) $$ H
  iintro H
  rw [wp_ret]
  imodintro
  iapply HQ; iexact H

/-- After the call the TensorCore owes nothing; its recorded waits are set aside for the next steps. -/
theorem tcSt_open (d : Dev nD) : ((K (F := F)).tcSt EH d 1 : sProp 𝕄) ⊢ iprop(idleOwes (F := F) d 8 ∗ (idleOwes (F := F) d 8 -∗ (K (F := F)).tcSt EH d 1)) := by
  have h0 : (K (F := F)).Otc d 1 = (0 : CellTallies nD τ sig (HIx 1)) := by
    unfold SparseCore.Cfg.Otc
    exact Finset.sum_eq_zero fun q _ => if_neg (by have := q.isLt; omega)
  unfold SparseCore.Cfg.tcSt
  rw [h0]
  iintro ⟨HO, H⟩
  isplitl [HO]; · iexact HO
  iintro HO
  isplitl [HO]; · iexact HO
  iexact H

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = unscopedBufs d (fun b => W0 m d b) from rfl]
  simp only [main, wp_bind, wp_pure]
  iintro ⟨#Hctx, Hst, ⟨Hb, Hu, Hts, -⟩, HG⟩
  iapply (wp_reshape d opFlat (StableHlo.reshape_bufs_sub ..) rfl (W0 m d) (W1 m d) rfl)
  isplitl [Hb Hu]
  · isplitl [Hb] <;> iassumption
  iintro ⟨Hb, Hu⟩
  ihave Hu := (call_in m d) $$ Hu
  icases Hu with ⟨Hops, Hback⟩
  iapply ((K (F := F)).wp_run (D (F := F)) 𝒱 (EH := EH) (P := P m) κ d 0) $$ [Hst Hops Hback Hb Hts HG]
  isplitr; · iexact Hctx
  isplitl [Hst]; · iexact Hst
  isplitl [Hops]
  · rw [st0_eq]; iexact Hops
  iintro ⟨Hst, Hdn⟩
  ihave Hdn' := (Entails.of_eq (dn0_eq m d)) $$ Hdn
  ihave Hu := Hback $$ Hdn'
  iapply (wp_reshape d opT (StableHlo.reshape_bufs_sub ..) rfl (W2 m d) (W3 m d) rfl)
  isplitl [Hb Hu]
  · isplitl [Hb] <;> iassumption
  iintro ⟨Hb, Hu⟩
  iapply (wp_reshape d opG (StableHlo.reshape_bufs_sub ..) rfl (W3 m d) (W4 m d) rfl)
  isplitl [Hb Hu]
  · isplitl [Hb] <;> iassumption
  iintro ⟨Hb, Hu⟩
  have hst : ((K (F := F)).tcSt EH d ((0 : Fin 1).val + 1) : sProp 𝕄) ⊢ iprop(idleOwes (F := F) d 8 ∗ (idleOwes (F := F) d 8 -∗ (K (F := F)).tcSt EH d 1)) := tcSt_open d
  ihave Hst := hst $$ Hst
  have h4 : (unscopedBufs d (fun b => W4 m d b) : sProp 𝕄) ⊢ unscopedBufs d (V4 m d) := Entails.of_eq rfl
  ihave Hu := h4 $$ Hu
  icases Hst with ⟨HO, Hst⟩
  iapply (wp_region m κ d 8)
  isplitr [Hb Hu HO HG]; swap
  · isplitl [Hb]; · iexact Hb
    isplitl [Hu HO]
    · isplitl [Hu] <;> iassumption
    isplitr; · iexact Hctx
    iexact HG
  iintro ⟨Hb, Hu, HO⟩
  have h5 : (unscopedBufs d (V5 m d) : sProp 𝕄) ⊢ unscopedBufs d (fun b => W5 m d b) := Entails.of_eq rfl
  ihave Hu := h5 $$ Hu
  iapply (wp_reshape d opR (StableHlo.reshape_bufs_sub ..) rfl (W5 m d) (W6 m d) rfl)
  isplitl [Hb Hu]
  · isplitl [Hb] <;> iassumption
  iintro ⟨Hb, Hu⟩
  imodintro
  isplitl [Hst HO]
  · iapply Hst; iexact HO
  isplitl [Hu]
  · ihave Hu := (Entails.of_eq (unscopedBufs_eq d (fun b => W6 m d b))) $$ Hu
    rw [W6_arg0, W6_arg1, W6_v5]
    icases Hu with ⟨Ha, Ht, -, -, -, -, -, Hr⟩
    isplitl [Ha]; · iexact Ha
    isplitl [Ht]; · iexact Ht
    iexact Hr
  isplitl [Hb] <;> iassumption

def fq (d : Dev nD) (s' : Phys nD τ sig (Elt F)) : Prop :=
  s'.mem.mem (aLoc d) = m (aLoc d) ∧ s'.mem.mem (tLoc d) = m (tLoc d) ∧ s'.mem.mem (rLoc d) = fun _ => total (V4 m) d

set_option maxRecDepth 16384 in
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := (fun _ => total (V4 m) d : Buf (Elt F) (rLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (tLoc c) = m (tLoc c) ∧ r.2.mem (rLoc c) = fun _ => total (V4 m) c) ∧ r.2.sem = fun _ => 0

/-- From any launch memory whose targets are columns of `x`: every execution ends, the arguments unchanged, the result
    at the scaled total, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.RowLoss.lean ====
/-
  The loss of one row as a real number, and the two ways of summing it: with the weights written out over the row, and
  from the row's sum and two of its entries.
-/
module

public import proofs.«01_k».proof.Defs
public import Idealize.ShloMosaic.Lib.IdealHost

@[expose] public section

noncomputable section

namespace Cert.Proof.Value

open Idealize.ShloMosaic
open scoped BigOperators

/-- The smoothing weight and the confidence, as the reals their 32-bit patterns stand for. -/
def eps : ℝ := EReal.toReal (Ideal.ofBits .f32 0x3586386D#32)
def conf : ℝ := EReal.toReal (Ideal.ofBits .f32 0x3F666666#32)

theorem ofBits_eps : Ideal.ofBits .f32 0x3586386D#32 = ((eps : ℝ) : EReal) := by
  refine (EReal.coe_toReal ?_ ?_).symm <;> simp [Ideal.ofBits, Ideal.ieee, -EReal.coe_mul]
theorem ofBits_conf : Ideal.ofBits .f32 0x3F666666#32 = ((conf : ℝ) : EReal) := by
  refine (EReal.coe_toReal ?_ ?_).symm <;> simp [Ideal.ofBits, Ideal.ieee, -EReal.coe_mul]
theorem ofBits_rows : Ideal.ofBits .f32 0x44800000#32 = ((1024 : ℝ) : EReal) := by
  simp [Ideal.ofBits, Ideal.ieee, -EReal.coe_mul]; norm_num

/-- The weight of column `j` in a row whose target is `t`: none if the row or the column is padding, the confidence at the
    target, the smoothing weight elsewhere. -/
def weight (t j : Fin 100000) : ℝ := if t = 0 then 0 else if j = 0 then 0 else if j = t then conf else eps

/-- What a row `x` with target `t` adds to the running sum. -/
def rowLoss (x : Fin 100000 → ℝ) (t : Fin 100000) : ℝ :=
  if t = 0 then 0 else eps * ((∑ j, x j) - x 0 - x t) + conf * x t

/-- The weighted sum over a row is the row's loss. -/
theorem sum_weight (x : Fin 100000 → ℝ) (t : Fin 100000) : ∑ j, -weight t j * x j = -rowLoss x t := by
  unfold rowLoss
  by_cases ht : t = 0
  · rw [if_pos ht, neg_zero]
    refine Finset.sum_eq_zero fun j _ => ?_
    rw [weight, if_pos ht]; ring
  · rw [if_neg ht]
    have hj : ∀ j, -weight t j * x j = -eps * x j + (if j = 0 then eps * x j else 0) + (if j = t then (eps - conf) * x j else 0) := by
      intro j
      rw [weight, if_neg ht]
      by_cases h0 : j = 0
      · rw [if_pos h0, if_pos h0, if_neg fun h => ht (h.symm.trans h0)]; ring
      · rw [if_neg h0, if_neg h0]
        by_cases h1 : j = t
        · rw [if_pos h1, if_pos h1]; ring
        · rw [if_neg h1, if_neg h1]; ring
    rw [Finset.sum_congr rfl fun j _ => hj j, Finset.sum_add_distrib, Finset.sum_add_distrib, ← Finset.mul_sum,
      Finset.sum_ite_eq' Finset.univ (0 : Fin 100000), Finset.sum_ite_eq' Finset.univ t, if_pos (Finset.mem_univ _), if_pos (Finset.mem_univ _)]
    ring

/-- A finite sum of reals, each read as an extended real, is the sum read so. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Value

end
-- ==== Proof.KerValue.lean ====
/-
  The kernel's value: each point adds its thirty-two rows' losses, so the running scalar after all of them is the sum of
  every row's loss, and the result is its negation over the number of rows.
-/
module

public import proofs.«01_k».proof.Proof.Launch
public import proofs.«01_k».proof.Proof.RowLoss
public import Idealize.ShloMosaic.Lib.Pointwise
public import Idealize.ShloMosaic.Lib.Pipeline.Value

@[expose] public section

set_option maxRecDepth 16384

noncomputable section

namespace Cert.Proof.Value

open Idealize.ShloMosaic hiding ix0 ix1 ix2 ix3
open Idealize.ShloMosaic.TcCoe
open Idealize.ShloMosaic.ValueIdx
open Cert.KernelIdeal Cert.KernelIdeal.Gen Cert.Proof.Run
open scoped BigOperators

/-! ## One point -/

/-- What row `r` of a block adds, as the body computes it. -/
def rowTerm (X : Vec Ideal S32x100000 .f32) (T : Vec Ideal S32x1 .i32) (G : Vec Ideal S32x1 .f32) (r : Fin 32) : EReal :=
  Scalar.select (IntOp.cmpi .ne (T (ix2 r 0)) 0#32)
    (Ideal.ofBits .f32 0x3586386D#32 * ((∑ j : Fin 100000, X (ix2 r j)) - X (ix2 r 0) - G (ix2 r 0)) + Ideal.ofBits .f32 0x3F666666#32 * G (ix2 r 0))
    (0 : EReal)

theorem pay1_eq (X : Vec Ideal S32x100000 .f32) (T : Vec Ideal S32x1 .i32) (G : Vec Ideal S32x1 .f32) (a : EReal) :
    k1_pay1 (F := Ideal) X T G a = a + ∑ r : Fin 32, rowTerm X T G r := by
  unfold rowTerm
  pointwise [k1_pay1]
  refine congrArg (fun s : EReal => a + s) (Finset.sum_congr rfl fun r _ => ?_)
  rw [Fin.sum_univ_one]
  simp only [ix2_eq_valueIdx]

/-- A row's term over real entries, its third argument the entry at its target, is its loss. -/
theorem rowTerm_eq (X : Vec Ideal S32x100000 .f32) (T : Vec Ideal S32x1 .i32) (G : Vec Ideal S32x1 .f32) (r : Fin 32)
    (xr : Fin 100000 → ℝ) (tr : Fin 100000) (hX : ∀ j, X (ix2 r j) = ((xr j : ℝ) : EReal)) (hT : (T (ix2 r 0)).toNat = tr.val)
    (hG : G (ix2 r 0) = ((xr tr : ℝ) : EReal)) : rowTerm X T G r = ((rowLoss xr tr : ℝ) : EReal) := by
  have hs : (∑ j : Fin 100000, X (ix2 r j)) = ((∑ j, xr j : ℝ) : EReal) := by
    rw [coe_sum]; exact Finset.sum_congr rfl fun j _ => hX j
  unfold rowTerm rowLoss
  rw [hs, hX 0, hG, ofBits_eps, ofBits_conf, ← EReal.coe_sub, ← EReal.coe_sub, ← EReal.coe_mul, ← EReal.coe_mul, ← EReal.coe_add]
  have hz : IntOp.cmpi .ne (T (ix2 r 0)) 0#32 = 1#1 ↔ tr ≠ 0 := by
    have ofBool_eq_one (p : Bool) : (BitVec.ofBool p = 1#1) ↔ p = true := by cases p <;> decide
    unfold IntOp.cmpi
    rw [ofBool_eq_one, bne_iff_ne, ne_eq, ne_eq, Fin.ext_iff, ← hT]
    exact not_congr BitVec.toNat_inj.symm
  by_cases h : tr = 0
  · rw [if_pos h]; exact if_neg fun q => hz.1 q h
  · rw [if_neg h]; exact if_pos (hz.2 h)

/-! ## The blocks -/

section Blocks
variable {F : FTy → Type} [FloatOps F] (V : (c : Dev nD) → (b : Ref sig .tc) → Buf (Elt F) ((c : Thread nD τ).loc b)) (c : Dev nD)

/-- Row `r` of point `t`'s block is row `32 t + r` of the array. -/
def rowAt (t : Fin 32) (r : Fin 32) : Fin 1024 := ⟨32 * t.val + r.val, by omega⟩

theorem coords_val (t : Fin cfg1.N) : (grid1.coords t 0).val = t.val := by
  revert t; decide

theorem blkX_apply (t : Fin cfg1.N) (r : Fin 32) (j : Fin 100000) :
    blkX V c t (ix2 r j) = (V c main_arg0 : S1024x100000.Idx → F .f32) (ix2 (rowAt t r) j) := by
  show (V c main_arg0 : S1024x100000.Idx → F .f32) ((win1_0.rect t).emb (ix2 r j)) = _
  refine congrArg _ (funext fun a => Fin.ext ?_)
  rw [Pipeline.Window.rect_emb_val_off]
  have := coords_val t
  match a with
  | ⟨0, _⟩ =>
    show (BitVec.ofNat 32 (grid1.coords t 0).val).toNat * 32 + r.val = 32 * t.val + r.val
    have h32 : t.val < 32 := t.isLt
    rw [BitVec.toNat_ofNat, this]; omega
  | ⟨1, _⟩ => show 0 * 100000 + j.val = j.val; omega

theorem blkT_apply (t : Fin cfg1.N) (r : Fin 32) :
    blkT V c t (ix2 r 0) = (V c main_v2 : S1024x1.Idx → BitVec 32) (ix2 (rowAt t r) 0) := by
  show (V c main_v2 : S1024x1.Idx → BitVec 32) ((win1_1.rect t).emb (ix2 r 0)) = _
  refine congrArg _ (funext fun a => Fin.ext ?_)
  rw [Pipeline.Window.rect_emb_val_off]
  have := coords_val t
  match a with
  | ⟨0, _⟩ =>
    show (BitVec.ofNat 32 (grid1.coords t 0).val).toNat * 32 + r.val = 32 * t.val + r.val
    have h32 : t.val < 32 := t.isLt
    rw [BitVec.toNat_ofNat, this]; omega
  | ⟨1, _⟩ => rfl

theorem blkG_apply (t : Fin cfg1.N) (r : Fin 32) :
    blkG V c t (ix2 r 0) = (V c main_v3 : S1024x1.Idx → F .f32) (ix2 (rowAt t r) 0) := by
  show (V c main_v3 : S1024x1.Idx → F .f32) ((win1_2.rect t).emb (ix2 r 0)) = _
  refine congrArg _ (funext fun a => Fin.ext ?_)
  rw [Pipeline.Window.rect_emb_val_off]
  have := coords_val t
  match a with
  | ⟨0, _⟩ =>
    show (BitVec.ofNat 32 (grid1.coords t 0).val).toNat * 32 + r.val = 32 * t.val + r.val
    have h32 : t.val < 32 := t.isLt
    rw [BitVec.toNat_ofNat, this]; omega
  | ⟨1, _⟩ => rfl

end Blocks

/-! ## What the arrays hold -/

section Arrays
variable {F : FTy → Type} [FloatOps F] (m : (ℓ : Loc nD τ sig) → Buf (Elt F) ℓ) (d : Dev nD)

/-- A vector of 1024 entries read as a column. -/
theorem column_apply {α : Type} (v : S1024.Idx → α) (r : Fin 1024) :
    shapeCast S1024x1 v shapeCasts_S1024_S1024x1 (ix2 r 0) = v (ix1 r) := by
  refine congrArg v (Shape.reshapeEquiv_eq_of_rowMajor _ ?_)
  rw [Shape.rowMajor_val_one, Shape.rowMajor_val_two]
  show r.val = r.val * 1 + 0
  omega

/-- The gathered entry of row `r` is `x` there at the row's target. -/
theorem outX_apply (r : Fin 1024) (h : (m (tLoc d) (ix1 r)).toNat < 100000) :
    (outX m d : S1024.Idx → F .f32) (ix1 r) = (m (aLoc d) : S1024x100000.Idx → F .f32) (ix2 r ⟨(m (tLoc d) (ix1 r)).toNat, h⟩) := by
  refine congrArg (m (aLoc d) : S1024x100000.Idx → F .f32) (Shape.reshapeEquiv_eq_of_rowMajor shapeCasts_S1024x100000_S102400000 (x := pos (m (tLoc d)) (ix1 r)) (y := (ix2 r ⟨(m (tLoc d) (ix1 r)).toNat, h⟩ : S1024x100000.Idx)) ?_)
  rw [Shape.rowMajor_val_one, Shape.rowMajor_val_two]
  show r.val * 100000 + (m (tLoc d) (ix1 r)).toNat = (r.val * 100000 + (m (tLoc d) (ix1 r)).toNat) % 102400000
  rw [Nat.mod_eq_of_lt]
  have := r.isLt
  omega

end Arrays

/-! ## The running scalar and the result -/

section Total
variable (m : (ℓ : Loc nD τ sig) → Buf (Elt Ideal) ℓ) (d : Dev nD)
  (hx : ∀ i : S1024x100000.Idx, ((EReal.toReal (m (aLoc d) i) : ℝ) : EReal) = (m (aLoc d) i : EReal))
  (ht : ∀ j : S1024.Idx, (m (tLoc d) j).toNat < 100000)

/-- Row `r`'s loss. -/
def lossAt (r : Fin 1024) : ℝ :=
  rowLoss (fun j => EReal.toReal (m (aLoc d) (ix2 r j) : EReal)) ⟨(m (tLoc d) (ix1 r)).toNat, ht _⟩

include hx in
/-- What point `t`'s row `r` adds. -/
theorem point_row (t : Fin cfg1.N) (r : Fin 32) :
    rowTerm (blkX (V4 m) d t) (blkT (V4 m) d t) (blkG (V4 m) d t) r = ((lossAt m d ht (rowAt t r) : ℝ) : EReal) := by
  refine rowTerm_eq _ _ _ r _ _ (fun j => ?_) ?_ ?_
  · rw [blkX_apply, V4_arg0]; exact (hx _).symm
  · rw [blkT_apply, V4_v2, column_apply]
  · rw [blkG_apply, V4_v3, column_apply, outX_apply m d _ (ht _)]; exact (hx _).symm

/-- The rows' losses as a function on the naturals, nothing past the last row. -/
def lossN (i : ℕ) : ℝ := if h : i < 1024 then lossAt m d ht ⟨i, h⟩ else 0

include hx in
theorem acc_eq (n : ℕ) (hn : n ≤ 32) : acc (V4 m) d n = ((∑ i ∈ Finset.range (32 * n), lossN m d ht i : ℝ) : EReal) := by
  induction n with
  | zero => exact Ideal.ofBits_zero_f32
  | succ n ih =>
    have hN : n < cfg1.N := by rw [show cfg1.N = 32 from N_1]; omega
    rw [acc_succ (V4 m) d ⟨n, hN⟩, pay1_eq, ih (by omega), Nat.mul_succ, Finset.sum_range_add, EReal.coe_add,
      Finset.sum_range fun i => lossN m d ht (32 * n + i), coe_sum Finset.univ]
    refine congrArg (fun s : EReal => _ + s) (Finset.sum_congr rfl fun r _ => ?_)
    rw [point_row m d hx ht, lossN, dif_pos (by have := r.isLt; omega)]
    rfl

include hx in
/-- The kernel's result. -/
theorem total_eq : total (V4 m) d = Ideal.div ((-(∑ r : Fin 1024, lossAt m d ht r) : ℝ) : EReal) ((1024 : ℝ) : EReal) := by
  have hs : (∑ i ∈ Finset.range (32 * 32), lossN m d ht i) = ∑ r : Fin 1024, lossAt m d ht r := by
    rw [show 32 * 32 = 1024 from rfl, Finset.sum_range]
    exact Finset.sum_congr rfl fun r _ => dif_pos r.isLt
  show Ideal.div (Ideal.ofBits .f32 0x00000000#32 - acc (V4 m) d 32) (Ideal.ofBits .f32 0x44800000#32) = _
  rw [acc_eq m d hx ht 32 le_rfl, hs, ofBits_rows, Ideal.ofBits_zero_f32, zero_sub, EReal.coe_neg]

end Total

end Cert.Proof.Value

end
-- ==== Proof.Scatters.lean ====
/-
  Two scatters that set, read at an entry of a matrix: one entry per row, its row and column given by a pair of index
  words; and a whole column.
-/
module

public import Idealize.ShloMosaic.Lib.Routing.OpsOne

@[expose] public section

namespace Cert.Proof.Value

open Idealize.ShloMosaic Idealize.ShloMosaic.ValueIdx Idealize.ShloMosaic.Routing

/-- Update `a` of a scatter of `A` scalars, two index words each, lands at `(r, c)` exactly when its words, read signed, are
    `r` and `c`. -/
theorem lands_rows {R C A w : Nat} (d : ScatterDims (shape2 R C) (shape2 A 2) (shape1 A)) (hiw : d.insertedWindowDims = [0, 1])
    (hsd : d.scatterDimsToOperandDims = [0, 1]) (hivd : d.indexVectorDim = 1) (idx : IVec (shape2 A 2) w)
    (a : Fin A) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩ = ix2 a q := fun q => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      have one : ∀ X : Fin 1, (ix1 a X).val = a.val := fun X => by
        obtain rfl : X = 0 := Subsingleton.elim _ _
        rfl
      exact one _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

/-- One scalar set per row: where update `a` goes to row `a` and column `T a`, entry `(r, c)` is row `r`'s update if `c` is `T r`,
    else the operand's. -/
theorem scatter_rows {α : Type} {R C w : Nat} (d : ScatterDims (shape2 R C) (shape2 R 2) (shape1 R)) (hiw : d.insertedWindowDims = [0, 1])
    (hsd : d.scatterDimsToOperandDims = [0, 1]) (hivd : d.indexVectorDim = 1) (x0 : (shape2 R C).Idx → α) (idx : IVec (shape2 R 2) w)
    (upd : (shape1 R).Idx → α) (T : Fin R → Fin C) (h0 : ∀ a, (idx (ix2 a 0)).toInt = (a.val : Int)) (h1 : ∀ a, (idx (ix2 a 1)).toInt = ((T a).val : Int))
    (r : Fin R) (c : Fin C) :
    Host.scatter d (fun _ b => b) x0 idx upd (ix2 r c) = if c = T r then upd (ix1 r) else x0 (ix2 r c) := by
  have landsAt : ∀ a : Fin R, d.resultIdx? (ix1 a) idx = some (ix2 r c) → a = r ∧ c = T r := fun a ha => by
    have h := (lands_rows d hiw hsd hivd idx a r c).1 ha
    rw [h0, h1] at h
    have e : a = r := Fin.ext (by have := h.1; omega)
    refine ⟨e, Fin.ext ?_⟩
    rw [e] at h
    have := h.2
    omega
  have lands : ∀ j : (shape1 R).Idx, d.resultIdx? j idx = some (ix2 r c) → j 0 = r ∧ c = T r := fun j hj =>
    landsAt (j 0) ((congrArg (fun t => d.resultIdx? t idx) (eq_ix1 j).symm).trans hj)
  by_cases h : c = T r
  · rw [if_pos h]
    exact scatter_set_hit d x0 idx upd _ _ (fun j hj => (congrArg upd (eq_ix1 j)).trans (congrArg (fun t => upd (ix1 t)) (lands j hj).1)) (ix1 r)
      ((lands_rows d hiw hsd hivd idx r r c).2 ⟨h0 r, by rw [h1, h]⟩)
  · rw [if_neg h]
    exact scatter_set_miss d x0 idx upd _ fun j hj => h (lands j hj).2

/-- A column set: entry `(r, c)` is the update's entry `r` if `c` is the column the index word names, else the operand's. -/
theorem scatter_column {α : Type} {R C : Nat} (d : ScatterDims (shape2 R C) (shape1 1) (shape1 R)) (hiw : d.insertedWindowDims = [1])
    (hsd : d.scatterDimsToOperandDims = [1]) (x0 : (shape2 R C).Idx → α) (idx : IVec (shape1 1) 32) (upd : (shape1 R).Idx → α)
    (k : Fin C) (hidx : (idx (ix1 0)).toInt = (k.val : Int)) (r : Fin R) (c : Fin C) :
    Host.scatter d (fun _ b => b) x0 idx upd (ix2 r c) = if c = k then upd (ix1 r) else x0 (ix2 r c) := by
  have lands : ∀ j : (shape1 R).Idx, d.resultIdx? j idx = some (ix2 r c) → j 0 = r ∧ c = k := fun j hj =>
    (lands_col d hiw hsd idx k hidx (j 0) r c).1 ((congrArg (fun t => d.resultIdx? t idx) (eq_ix1 j).symm).trans hj)
  by_cases h : c = k
  · rw [if_pos h]
    exact scatter_set_hit d x0 idx upd _ _ (fun j hj => (congrArg upd (eq_ix1 j)).trans (congrArg (fun t => upd (ix1 t)) (lands j hj).1)) (ix1 r)
      ((lands_col d hiw hsd idx k hidx r r c).2 ⟨rfl, h⟩)
  · rw [if_neg h]
    exact scatter_set_miss d x0 idx upd _ fun j hj => h (lands j hj).2

end Cert.Proof.Value
-- ==== Proof.RefValue.lean ====
/-
  The reference's value: over the reals, minus the sum of the rows' losses, divided by the number of rows.
-/
module

public import proofs.«01_k».proof.Proof.Scatters
public import proofs.«01_k».proof.Proof.RowLoss
public import proofs.«01_k».proof.Proof.Gen.ReferenceIdeal
public import Idealize.ShloMosaic.Lib.Pointwise

@[expose] public section

set_option maxRecDepth 16384

noncomputable section

namespace Cert.Proof.Value

open Idealize.ShloMosaic hiding ix0 ix1 ix2 ix3
open Idealize.ShloMosaic.ValueIdx
open Cert.ReferenceIdeal Cert.ReferenceIdeal.Gen
open scoped BigOperators

variable (x : FVec Ideal S1024x100000 .f32) (t : IVec S1024 32)

/-- The pairs of index words of the first scatter: the row numbers and the targets, each wrapped if negative. -/
def pairs : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩,
    ⟨S1024x1, (broadcastInDim S1024x1 ![0] bcast_S1024_S1024x1_0 (select (cmpi .slt t (broadcastInDim S1024 ![] bcast_S_S1024 (constantI S_ 32 0#32))) (addi t (broadcastInDim S1024 ![] bcast_S_S1024 (constantI S_ 32 100000#32))) t))⟩] concatenates_S1024x1_S1024x1_S1024x2_d1

/-- The weights before the padding rows are cleared. -/
def dist : FVec Ideal S1024x100000 .f32 :=
  Host.scatter scatter_S1024x100000_S1_S1024_0_1_1_0 (fun _ b => b) (Host.scatter scatter_S1024x100000_S1024x2_S1024_n_01_01_1 (fun _ b => b) (broadcastInDim S1024x100000 ![] bcast_S_S1024x100000 (constant S_ .f32 0x3586386D#32)) (pairs t) (broadcastInDim S1024 ![] bcast_S_S1024 (constant S_ .f32 0x3F666666#32))) (broadcastInDim S1 ![] bcast_S_S1 (constantI S_ 32 0#32)) (broadcastInDim S1024 ![] bcast_S_S1024 (constant S_ .f32 0x00000000#32))

/-- The weights, negated, times the entries. -/
def terms : FVec Ideal S1024x100000 .f32 :=
  mulf (Host.negf (select (broadcastInDim S1024x100000 ![0, 1] bcast_S1024x1_S1024x100000_0_1 (broadcastInDim S1024x1 ![0] bcast_S1024_S1024x1_0 (cmpi .eq t (broadcastInDim S1024 ![] bcast_S_S1024 (constantI S_ 32 0#32))))) (broadcastInDim S1024x100000 ![] bcast_S_S1024x100000 (id (constant S_ .f32 0x00000000#32))) (dist t))) x

/-- The reference's result. -/
def refOut : FVec Ideal S_ .f32 :=
  Host.divf (Host.reduceAdd (Host.reduceAdd (terms x t) (constant S_ .f32 0x00000000#32) reducesTo_S1024x100000_S1024_d1 h_S_) (constant S_ .f32 0x00000000#32) reducesTo_S1024_S_d0 h_S_) (constant S_ .f32 0x44800000#32)

/-- A word below 100000 read signed is its own value. -/
theorem toInt_small (v : BitVec 32) (h : v.toNat < 100000) : v.toInt = (v.toNat : Int) := by
  rw [BitVec.toInt_eq_toNat_cond]; omega

theorem pairs_zero (r : Fin 1024) : (pairs t (ix2 r 0)).toInt = (r.val : Int) := by
  have hn : (BitVec.ofNat 32 r.val).toNat = r.val := by rw [BitVec.toNat_ofNat]; have := r.isLt; omega
  have e : pairs t (ix2 r 0) = BitVec.ofNat 32 r.val := by
    unfold pairs
    rw [concatenate_pair_apply_left (s₁ := S1024x1) (s₂ := S1024x1) (t := S1024x2) 1 _ _ _ (ix2 r 0) rfl (ix2 r 0) (fun b => by
      match b with
      | ⟨0, _⟩ => rfl
      | ⟨1, _⟩ => rfl)]
    refine Eq.trans ?_ (Routing.wrap_of_lt (BitVec.ofNat 32 r.val) (IntOp.addi (BitVec.ofNat 32 r.val) 1024#32) (by rw [hn]; have := r.isLt; omega))
    pointwise
  rw [e, toInt_small _ (by rw [hn]; have := r.isLt; omega), hn]

theorem pairs_one (ht : ∀ j, (t j).toNat < 100000) (r : Fin 1024) : (pairs t (ix2 r 1)).toInt = ((t (ix1 r)).toNat : Int) := by
  have e : pairs t (ix2 r 1) = t (ix1 r) := by
    unfold pairs
    rw [concatenate_pair_apply_right (s₁ := S1024x1) (s₂ := S1024x1) (t := S1024x2) 1 _ _ _ (ix2 r 1) rfl rfl (ix2 r 0) (fun b hb => by
      match b with
      | ⟨0, _⟩ => rfl
      | ⟨1, _⟩ => exact absurd rfl hb) rfl]
    refine Eq.trans ?_ (Routing.wrap_of_lt (t (ix1 r)) (IntOp.addi (t (ix1 r)) 100000#32) (by have := ht (ix1 r); omega))
    pointwise
    rfl
  rw [e, toInt_small _ (ht _)]

/-- Row `r`'s target as a column. -/
def col (ht : ∀ j, (t j).toNat < 100000) (r : Fin 1024) : Fin 100000 := ⟨(t (ix1 r)).toNat, ht _⟩

/-- The weights before the padding rows are cleared, at an entry. -/
theorem dist_apply (ht : ∀ j, (t j).toNat < 100000) (r : Fin 1024) (c : Fin 100000) :
    dist t (ix2 r c) = if c = 0 then (0 : EReal) else if c = col t ht r then ((conf : ℝ) : EReal) else ((eps : ℝ) : EReal) := by
  unfold dist
  rw [scatter_column scatter_S1024x100000_S1_S1024_0_1_1_0 rfl rfl _ _ _ (0 : Fin 100000) (by
    rw [broadcastInDim_scalar_apply]; rfl) r c]
  rw [broadcastInDim_scalar_apply]
  rw [scatter_rows scatter_S1024x100000_S1024x2_S1024_n_01_01_1 rfl rfl rfl _ (pairs t) _ (col t ht) (pairs_zero t) (pairs_one t ht) r c]
  rw [broadcastInDim_scalar_apply, broadcastInDim_scalar_apply]
  have h0 : (constant S_ .f32 0x00000000#32 : FVec Ideal S_ .f32) ix0 = (0 : EReal) := Ideal.ofBits_zero_f32
  have h1 : (constant S_ .f32 0x3F666666#32 : FVec Ideal S_ .f32) ix0 = ((conf : ℝ) : EReal) := ofBits_conf
  have h2 : (constant S_ .f32 0x3586386D#32 : FVec Ideal S_ .f32) ix0 = ((eps : ℝ) : EReal) := ofBits_eps
  rw [h0, h1, h2]

/-- The real entry of row `r` at column `c`. -/
def ent (r : Fin 1024) (c : Fin 100000) : ℝ := EReal.toReal (x (ix2 r c))

/-- One weighted entry. -/
theorem terms_apply (hx : ∀ i, ((EReal.toReal (x i) : ℝ) : EReal) = x i) (ht : ∀ j, (t j).toNat < 100000) (r : Fin 1024) (c : Fin 100000) :
    terms x t (ix2 r c) = ((-weight (col t ht r) c * ent x r c : ℝ) : EReal) := by
  have e : terms x t (ix2 r c) = -(Scalar.select (IntOp.cmpi .eq (t (ix1 r)) 0#32) (Ideal.ofBits .f32 0x00000000#32) (dist t (ix2 r c))) * x (ix2 r c) := by
    unfold terms
    pointwise
    rw [ix1_eq_valueIdx]
    exact congrArg (fun z : EReal => -Scalar.select (IntOp.cmpi .eq (t (ix1 r)) 0#32) z (dist t (ix2 r c)) * x (ix2 r c)) Ideal.ofBits_zero_f32
  have hz : IntOp.cmpi .eq (t (ix1 r)) 0#32 = 1#1 ↔ col t ht r = 0 := by
    have ofBool_eq_one (p : Bool) : (BitVec.ofBool p = 1#1) ↔ p = true := by cases p <;> decide
    unfold IntOp.cmpi
    rw [ofBool_eq_one, beq_iff_eq, Fin.ext_iff]
    exact BitVec.toNat_inj.symm
  have hs : ∀ a b : EReal, Scalar.select (IntOp.cmpi .eq (t (ix1 r)) 0#32) a b = if col t ht r = 0 then a else b := fun a b => by
    by_cases h : col t ht r = 0
    · rw [if_pos h]; exact if_pos (hz.2 h)
    · rw [if_neg h]; exact if_neg fun q => h (hz.1 q)
  rw [e, hs, dist_apply t ht, ← hx, Ideal.ofBits_zero_f32, EReal.coe_mul, EReal.coe_neg]
  refine congrArg (fun w : EReal => -w * _) ?_
  unfold weight
  by_cases h : col t ht r = 0
  · rw [if_pos h, if_pos h]; rfl
  · rw [if_neg h, if_neg h]
    by_cases h0 : c = 0
    · rw [if_pos h0, if_pos h0]; rfl
    · rw [if_neg h0, if_neg h0]
      by_cases h1 : c = col t ht r
      · rw [if_pos h1, if_pos h1]
      · rw [if_neg h1, if_neg h1]

/-- The reference's result: minus the sum of the rows' losses, over the number of rows. -/
theorem refOut_eq (hx : ∀ i, ((EReal.toReal (x i) : ℝ) : EReal) = x i) (ht : ∀ j, (t j).toNat < 100000) :
    refOut x t ix0 = Ideal.div ((-(∑ r : Fin 1024, rowLoss (ent x r) (col t ht r)) : ℝ) : EReal) ((1024 : ℝ) : EReal) := by
  have e : refOut x t ix0 = Ideal.div (Ideal.ofBits .f32 0x00000000#32 + ∑ r : Fin 1024, (Ideal.ofBits .f32 0x00000000#32 + ∑ c : Fin 100000, terms x t (ix2 r c))) (Ideal.ofBits .f32 0x44800000#32) := by
    unfold refOut
    pointwise
    rfl
  have hs : (∑ r : Fin 1024, (Ideal.ofBits .f32 0x00000000#32 + ∑ c : Fin 100000, terms x t (ix2 r c))) = ((-(∑ r : Fin 1024, rowLoss (ent x r) (col t ht r)) : ℝ) : EReal) := by
    rw [← Finset.sum_neg_distrib, coe_sum]
    refine Finset.sum_congr rfl fun r _ => ?_
    rw [Ideal.ofBits_zero_f32, zero_add, ← sum_weight, coe_sum]
    exact Finset.sum_congr rfl fun c _ => terms_apply x t hx ht r c
  rw [e, hs, ofBits_rows, Ideal.ofBits_zero_f32, zero_add]

end Cert.Proof.Value

end
-- ==== Proof.Pre.lean ====
/-
  What the precondition says: every target is a column number below 100000, and, over the extended reals, every entry
  of `x` is a real number.
-/
module

public import proofs.«01_k».proof.Defs
public import proofs.«01_k».proof.Proof.Gen.Pre_targets_in_range
public import Idealize.ShloMosaic.Lib.ReduceAll
public import Idealize.ShloMosaic.Lib.IdealHost

@[expose] public section

noncomputable section

namespace Cert.Proof.Value

open Idealize.ShloMosaic Idealize.ShloMosaic.ValueIdx

attribute [local instance] Cert.Pre_targets_in_range.Gen.facts

/-- The scalar shape has one index. -/
instance scalarIdx : Subsingleton Cert.Pre_targets_in_range.S_.Idx := ⟨fun a b => (eq_ix0 a).trans (eq_ix0 b).symm⟩

/-- A signed word that is at least zero and below 100000 is a natural number below 100000. -/
theorem word_lt (v : BitVec 32) (e : IntOp.andi (IntOp.cmpi .sge v 0#32) (IntOp.cmpi .slt v 100000#32) = 1#1) : v.toNat < 100000 := by
  obtain ⟨h1, h2⟩ := IntOp.andi_eq_one.1 e
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h1 h2
  omega

section
variable {F : FTy → Type} [FloatOps F] (x : FVec F Cert.Pre_targets_in_range.S1024x100000 .f32) (t : IVec Cert.Pre_targets_in_range.S1024 32)

/-- Under the precondition every target is below 100000. -/
theorem target_lt (h : Cert.Pre_targets_in_range.fn x t = fun _ => 1#1) (j : Cert.Pre_targets_in_range.S1024.Idx) : (t j).toNat < 100000 := by
  have e := congrFun h ix0
  dsimp only [Cert.Pre_targets_in_range.fn] at e
  exact word_lt _ (Host.reduce_andi_all _ _ _ _ _ (IntOp.andi_eq_one.1 e).1 j)

end

/-- The pattern of plus infinity is the top of the extended reals. -/
theorem ofBits_inf : Ideal.ofBits .f32 0x7F800000#32 = ⊤ := by simp [Ideal.ofBits, Ideal.ieee]

/-- Under the precondition every entry of `x` is a real number. -/
theorem entry_real (x : FVec Ideal Cert.Pre_targets_in_range.S1024x100000 .f32) (t : IVec Cert.Pre_targets_in_range.S1024 32)
    (h : Cert.Pre_targets_in_range.fn x t = fun _ => 1#1) (i : Cert.Pre_targets_in_range.S1024x100000.Idx) : ((EReal.toReal (x i) : ℝ) : EReal) = x i := by
  have e := congrFun h ix0
  dsimp only [Cert.Pre_targets_in_range.fn] at e
  have e' : Ideal.cmp .olt (max (x i) (-(x i))) (Ideal.ofBits .f32 0x7F800000#32) = 1#1 :=
    Host.reduce_andi_all _ _ _ _ _ (IntOp.andi_eq_one.1 e).2 i
  have ofBool_eq_one (p : Bool) : (BitVec.ofBool p = 1#1) ↔ p = true := by cases p <;> decide
  rw [ofBits_inf, Ideal.cmp, ofBool_eq_one, decide_eq_true_eq, max_lt_iff] at e'
  refine EReal.coe_toReal (ne_of_lt e'.1) fun hb => ?_
  rw [hb, EReal.neg_bot] at e'
  exact lt_irrefl _ e'.2

end Cert.Proof.Value

end
-- ==== Proof.Same.lean ====
/-
  The kernel's program and the one read over the extended reals are one program: their call tables and their threads
  are equal at any float values.
-/
module

public import proofs.«01_k».proof.Proof.Gen.Kernel
public import proofs.«01_k».proof.Proof.Gen.KernelIdeal

@[expose] public section

set_option maxRecDepth 16384

namespace Cert.Proof.Value

open Idealize.ShloMosaic

attribute [local instance] Cert.Kernel.Gen.facts Cert.KernelIdeal.Gen.facts

variable {F : FTy → Type} [FloatOps F]

/-- The kernels' bodies. -/
theorem bodies_eq : Cert.Kernel.defs₀ (F := F) = Cert.KernelIdeal.defs₀ (F := F) := by
  refine funext fun p => funext fun ℓ => funext fun a => ?_
  match p, ℓ, a with
  | .scVector c s, 0, _ => rfl
  | .scVector c s, 1, _ => rfl
  | .tc, 0, _ => rfl
  | .tc, 1, _ => rfl
  | .scScalar c, 0, _ => rfl
  | .scScalar c, 1, _ => rfl

/-- The SparseCore call. -/
theorem calls_eq : Cert.Kernel.sc (F := F) = Cert.KernelIdeal.sc (F := F) := by
  unfold Cert.Kernel.sc Cert.KernelIdeal.sc
  congr 1

/-- The call table. -/
theorem defs_eq : Cert.Kernel.defs (F := F) = Cert.KernelIdeal.defs (F := F) := by
  show (Cert.Kernel.sc (F := F)).defs (Pipeline.defs Cert.Kernel.pcfgs Cert.Kernel.defs₀) = (Cert.KernelIdeal.sc (F := F)).defs (Pipeline.defs Cert.KernelIdeal.pcfgs Cert.KernelIdeal.defs₀)
  exact congrArg₂ (fun a b => SparseCore.Cfg.defs (nD := 1) a (Pipeline.defs Cert.KernelIdeal.pcfgs b)) calls_eq bodies_eq

/-- What the TensorCore runs. -/
theorem main_eq : Cert.Kernel.main (F := F) = Cert.KernelIdeal.main (F := F) := by
  unfold Cert.Kernel.main Cert.KernelIdeal.main
  rw [calls_eq]
  rfl

/-- What every thread runs. -/
theorem threads_eq : Cert.Kernel.threads (F := F) = Cert.KernelIdeal.threads (F := F) := congrArg₂ SparseCore.Cfg.threads calls_eq main_eq

end Cert.Proof.Value
-- ==== Proof.Claims.lean ====
/-
  The claims: the runs of the kernel and of the reference, at the bit patterns and over the extended reals, and the
  equality of their results.
-/
module

public import proofs.«01_k».proof.Proof.KerValue
public import proofs.«01_k».proof.Proof.RefValue
public import proofs.«01_k».proof.Proof.Pre
public import proofs.«01_k».proof.Proof.Same
public import proofs.«01_k».proof.Proof.Gen.ReferenceIdeal.Run
public import Idealize.ShloMosaic.Adequacy

@[expose] public section

set_option maxRecDepth 16384

noncomputable section

namespace Cert.Proof.Value

open Idealize.ShloMosaic hiding ix0 ix1 ix2 ix3
open Idealize.ShloMosaic.ValueIdx
open Idealize.SL.Sem

attribute [local instance] Cert.Kernel.Gen.facts Cert.KernelIdeal.Gen.facts Cert.ReferenceIdeal.Gen.facts Cert.Pre_targets_in_range.Gen.facts

instance bitsNonempty : ∀ e, Nonempty (Elt Bits e) := fun e => by cases e <;> exact ⟨(0 : BitVec _)⟩
instance idealNonempty : ∀ e, Nonempty (Elt Ideal e)
  | .f32 => ⟨(0 : EReal)⟩
  | e => by cases e <;> first | exact ⟨(0 : EReal)⟩ | exact ⟨(0 : BitVec _)⟩

/-- The kernel runs at the bit patterns. -/
theorem frame_kernel : Cert.quiescent_Kernel := by
  intro m g h
  rw [defs_eq, threads_eq]
  exact (θ_run Cert.KernelIdeal.defs _ _).mono (fun _ q => ⟨fun c => ⟨(q.1 c).1, (q.1 c).2.1⟩, q.2⟩)
    (Run.run_main (F := Bits) m g fun d j => target_lt _ _ (h d) j)

/-- The kernel runs over the extended reals. -/
theorem frame_ideal : Cert.quiescent_KernelIdeal := fun m g h =>
  (θ_run Cert.KernelIdeal.defs _ _).mono (fun _ q => ⟨fun c => ⟨(q.1 c).1, (q.1 c).2.1⟩, q.2⟩)
    (Run.run_main (F := Ideal) m g fun d j => target_lt _ _ (h d) j)

/-- The reference runs. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run m g)

/-- The same where its targets are columns. -/
theorem frame_reference_pre : Cert.quiescent_ReferenceIdeal_pre_targets_in_range := fun m g _ => frame_reference m g trivial

/-- The kernel's result is the reference's. -/
theorem algebraic : Cert.algebraic_KernelIdeal_ReferenceIdeal := by
  intro m g m' g' h hargs
  refine ⟨fun c => fun _ => Run.total (Run.V4 m) c, ?_, ?_⟩
  · refine (θ_run Cert.KernelIdeal.defs _ _).mono (fun _ q c => ⟨(q.1 c).2.2, (q.1 c).1, (q.1 c).2.1⟩)
      (Run.run_main (F := Ideal) m g fun d j => target_lt _ _ (h d) j)
  · refine (θ_run Cert.ReferenceIdeal.defs _ _).mono (fun _ q c => ⟨(q c).1.trans ?_, (q c).2⟩) (Cert.ReferenceIdeal.Value.run m' g')
    obtain ⟨h0, h1⟩ := hargs c
    rw [h0, h1]
    have hx := entry_real _ _ (h c)
    have ht := target_lt _ _ (h c)
    funext i
    rw [show i = ix0 from eq_ix0 i]
    exact (refOut_eq _ _ hx ht).trans (total_eq m c hx ht).symm

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_targets_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_targets_in_range.Gen.facts,
  Cert.Proof.Value.frame_kernel, Cert.Proof.Value.frame_ideal, Cert.Proof.Value.frame_reference,
  Cert.Proof.Value.frame_reference_pre, trivial, Cert.Proof.Value.algebraic⟩

end Cert.Proof

end
